-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x128 : Shape := ⟨3, ![8, 4096, 128]⟩
abbrev S8x4096x3 : Shape := ⟨3, ![8, 4096, 3]⟩
abbrev S32768x128 : Shape := ⟨2, ![32768, 128]⟩
abbrev S1x1 : Shape := ⟨2, ![1, 1]⟩
abbrev S2048x128 : Shape := ⟨2, ![2048, 128]⟩
abbrev S2048 : Shape := ⟨1, ![2048]⟩
abbrev S1x2048 : Shape := ⟨2, ![1, 2048]⟩
abbrev S1 : Shape := ⟨1, ![1]⟩
abbrev S_ : Shape := ⟨0, ![]⟩

abbrev nBuf : Space → Nat
  | .hbm => 9
  | .vmem => 5
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S8x4096x3, .f32⟩
  | .hbm, ⟨3, _⟩ => ⟨S8x4096x3, .f32⟩
  | .hbm, ⟨4, _⟩ => ⟨S8x4096x3, .f32⟩
  | .hbm, ⟨5, _⟩ => ⟨S32768x128, .f32⟩
  | .hbm, ⟨6, _⟩ => ⟨S32768x128, .f32⟩
  | .hbm, ⟨7, _⟩ => ⟨S1x1, .f32⟩
  | .hbm, ⟨8, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x1, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S8x4096x128 : Shape := ⟨3, ![8, 4096, 128]⟩
abbrev S8x4096x3 : Shape := ⟨3, ![8, 4096, 3]⟩
abbrev S_ : Shape := ⟨0, ![]⟩
abbrev S8x4096 : Shape := ⟨2, ![8, 4096]⟩
abbrev S8 : Shape := ⟨1, ![8]⟩
abbrev S255x8 : Shape := ⟨2, ![255, 8]⟩
abbrev S8x1x1 : Shape := ⟨3, ![8, 1, 1]⟩
abbrev S8x1x3 : Shape := ⟨3, ![8, 1, 3]⟩
abbrev S8x1x3x1 : Shape := ⟨4, ![8, 1, 3, 1]⟩
abbrev S1 : Shape := ⟨1, ![1]⟩
abbrev S1x1x1x1 : Shape := ⟨4, ![1, 1, 1, 1]⟩
abbrev S1x8 : Shape := ⟨2, ![1, 8]⟩
abbrev S8x1 : Shape := ⟨2, ![8, 1]⟩
abbrev S8x255 : Shape := ⟨2, ![8, 255]⟩
abbrev S8x256 : Shape := ⟨2, ![8, 256]⟩
abbrev S8x256x1 : Shape := ⟨3, ![8, 256, 1]⟩
abbrev S8x256x3 : Shape := ⟨3, ![8, 256, 3]⟩
abbrev S8x256x3x1 : Shape := ⟨4, ![8, 256, 3, 1]⟩
abbrev S8x128x4096 : Shape := ⟨3, ![8, 128, 4096]⟩
abbrev S8x1x256 : Shape := ⟨3, ![8, 1, 256]⟩
abbrev S8x128x256 : Shape := ⟨3, ![8, 128, 256]⟩
abbrev S8x128x256x1 : Shape := ⟨4, ![8, 128, 256, 1]⟩

abbrev nBuf : Space → Nat
  | .hbm => 265
  | .vmem => 0
  | .smem => 0
  | _ => 0

abbrev hbmTy0_0 (i : Nat) : BufTy := match i % 128 with
  | 0 => ⟨S8x4096x128, .f32⟩
  | 1 => ⟨S8x4096x128, .f32⟩
  | 2 => ⟨S8x4096x3, .f32⟩
  | 3 => ⟨S8x4096x3, .f32⟩
  | 4 => ⟨S8x4096x3, .f32⟩
  | 5 => ⟨S8x4096x128, .f32⟩
  | 6 => ⟨S_, .f32⟩
  | 7 => ⟨S8x4096, .f32⟩
  | 8 => ⟨S8x4096x128, .f32⟩
  | 9 => ⟨S_, .f32⟩
  | 10 => ⟨S8x4096, .f32⟩
  | 11 => ⟨S8x4096, .f32⟩
  | 12 => ⟨S8x4096x128, .f32⟩
  | 13 => ⟨S_, .f32⟩
  | 14 => ⟨S8x4096, .f32⟩
  | 15 => ⟨S8x4096, .f32⟩
  | 16 => ⟨S_, .f32⟩
  | 17 => ⟨S8x4096, .f32⟩
  | 18 => ⟨S8x4096, .f32⟩
  | 19 => ⟨S_, .f32⟩
  | 20 => ⟨S8x4096, .f32⟩
  | 21 => ⟨S8x4096, .f32⟩
  | 22 => ⟨S8x4096, .f32⟩
  | 23 => ⟨S8x4096, .f32⟩
  | 24 => ⟨S_, .f32⟩
  | 25 => ⟨S8, .f32⟩
  | 26 => ⟨S_, .f32⟩
  | 27 => ⟨S8, .f32⟩
  | 28 => ⟨S8, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S8x4096, .f32⟩
  | 36 => ⟨S_, .i32⟩
  | 37 => ⟨S8, .i32⟩
  | 38 => ⟨S_, .i32⟩
  | 39 => ⟨S255x8, .i32⟩
  | 40 => ⟨S_, .i32⟩
  | 41 => ⟨S8x4096x3, .f32⟩
  | 42 => ⟨S_, .i32⟩
  | 43 => ⟨S8x4096, .f32⟩
  | 44 => ⟨S8, .i32⟩
  | 45 => ⟨S255x8, .i32⟩
  | 46 => ⟨S_, .i32⟩
  | 47 => ⟨S_, .i1⟩
  | 48 => ⟨S8x1x1, .i32⟩
  | 49 => ⟨S8x1x3, .i32⟩
  | 50 => ⟨S_, .i32⟩
  | 51 => ⟨S8x1x3, .i32⟩
  | 52 => ⟨S8x1x3, .i1⟩
  | 53 => ⟨S_, .i32⟩
  | 54 => ⟨S8x1x3, .i32⟩
  | 55 => ⟨S8x1x3, .i32⟩
  | 56 => ⟨S8x1x3, .i32⟩
  | 57 => ⟨S8x1x3x1, .i32⟩
  | 58 => ⟨S1, .i32⟩
  | 59 => ⟨S_, .i32⟩
  | 60 => ⟨S8x1x3x1, .i32⟩
  | 61 => ⟨S8x1x3x1, .i1⟩
  | 62 => ⟨S1x1x1x1, .i32⟩
  | 63 => ⟨S8x1x3x1, .i32⟩
  | 64 => ⟨S8x1x3x1, .i1⟩
  | 65 => ⟨S8x1x3x1, .i1⟩
  | 66 => ⟨S_, .i1⟩
  | 67 => ⟨S8x1x3, .i1⟩
  | 68 => ⟨S8x1x3, .f32⟩
  | 69 => ⟨S_, .f32⟩
  | 70 => ⟨S8x1x3, .f32⟩
  | 71 => ⟨S8x1x3, .f32⟩
  | 72 => ⟨S8x4096x3, .f32⟩
  | 73 => ⟨S8x4096x3, .f32⟩
  | 74 => ⟨S8x4096x3, .f32⟩
  | 75 => ⟨S_, .f32⟩
  | 76 => ⟨S8x4096, .f32⟩
  | 77 => ⟨S8x4096, .f32⟩
  | 78 => ⟨S8x4096, .i32⟩
  | 79 => ⟨S_, .f32⟩
  | 80 => ⟨S_, .i32⟩
  | 81 => ⟨S8, .f32⟩
  | 82 => ⟨S8, .i32⟩
  | 83 => ⟨S1x8, .i32⟩
  | 84 => ⟨S_, .i32⟩
  | 85 => ⟨S255x8, .i32⟩
  | 86 => ⟨S_, .i32⟩
  | 87 => ⟨S_, .i32⟩
  | 88 => ⟨S_, .i32⟩
  | 89 => ⟨S8x1, .i32⟩
  | 90 => ⟨S8x255, .i32⟩
  | 91 => ⟨S8x256, .i32⟩
  | 92 => ⟨S_, .f32⟩
  | 93 => ⟨S8x4096, .f32⟩
  | 94 => ⟨S_, .i32⟩
  | 95 => ⟨S8, .i32⟩
  | 96 => ⟨S_, .i32⟩
  | 97 => ⟨S255x8, .i32⟩
  | 98 => ⟨S_, .i32⟩
  | 99 => ⟨S8x4096x3, .f32⟩
  | 100 => ⟨S_, .i32⟩
  | 101 => ⟨S8x4096, .f32⟩
  | 102 => ⟨S8, .i32⟩
  | 103 => ⟨S255x8, .i32⟩
  | 104 => ⟨S_, .i32⟩
  | 105 => ⟨S_, .i1⟩
  | 106 => ⟨S8x1x1, .i32⟩
  | 107 => ⟨S8x1x3, .i32⟩
  | 108 => ⟨S_, .i32⟩
  | 109 => ⟨S8x1x3, .i32⟩
  | 110 => ⟨S8x1x3, .i1⟩
  | 111 => ⟨S_, .i32⟩
  | 112 => ⟨S8x1x3, .i32⟩
  | 113 => ⟨S8x1x3, .i32⟩
  | 114 => ⟨S8x1x3, .i32⟩
  | 115 => ⟨S8x1x3x1, .i32⟩
  | 116 => ⟨S1, .i32⟩
  | 117 => ⟨S_, .i32⟩
  | 118 => ⟨S8x1x3x1, .i32⟩
  | 119 => ⟨S8x1x3x1, .i1⟩
  | 120 => ⟨S1x1x1x1, .i32⟩
  | 121 => ⟨S8x1x3x1, .i32⟩
  | 122 => ⟨S8x1x3x1, .i1⟩
  | 123 => ⟨S8x1x3x1, .i1⟩
  | 124 => ⟨S_, .i1⟩
  | 125 => ⟨S8x1x3, .i1⟩
  | 126 => ⟨S8x1x3, .f32⟩
  | 127 => ⟨S_, .f32⟩
  | _ => ⟨S8x4096x128, .f32⟩

abbrev hbmTy0_1 (i : Nat) : BufTy := match i % 128 with
  | 0 => ⟨S8x1x3, .f32⟩
  | 1 => ⟨S8x1x3, .f32⟩
  | 2 => ⟨S8x4096x3, .f32⟩
  | 3 => ⟨S8x4096x3, .f32⟩
  | 4 => ⟨S8x4096x3, .f32⟩
  | 5 => ⟨S_, .f32⟩
  | 6 => ⟨S8x4096, .f32⟩
  | 7 => ⟨S8x4096, .f32⟩
  | 8 => ⟨S8x4096, .i32⟩
  | 9 => ⟨S_, .f32⟩
  | 10 => ⟨S_, .i32⟩
  | 11 => ⟨S8, .f32⟩
  | 12 => ⟨S8, .i32⟩
  | 13 => ⟨S1x8, .i32⟩
  | 14 => ⟨S_, .i32⟩
  | 15 => ⟨S255x8, .i32⟩
  | 16 => ⟨S_, .i32⟩
  | 17 => ⟨S_, .i32⟩
  | 18 => ⟨S_, .i32⟩
  | 19 => ⟨S8x1, .i32⟩
  | 20 => ⟨S8x255, .i32⟩
  | 21 => ⟨S8x256, .i32⟩
  | 22 => ⟨S8x256x1, .i32⟩
  | 23 => ⟨S8x256x3, .i32⟩
  | 24 => ⟨S_, .i32⟩
  | 25 => ⟨S8x256x3, .i32⟩
  | 26 => ⟨S8x256x3, .i1⟩
  | 27 => ⟨S_, .i32⟩
  | 28 => ⟨S8x256x3, .i32⟩
  | 29 => ⟨S8x256x3, .i32⟩
  | 30 => ⟨S8x256x3, .i32⟩
  | 31 => ⟨S8x256x3x1, .i32⟩
  | 32 => ⟨S1, .i32⟩
  | 33 => ⟨S_, .i32⟩
  | 34 => ⟨S8x256x3x1, .i32⟩
  | 35 => ⟨S8x256x3x1, .i1⟩
  | 36 => ⟨S1x1x1x1, .i32⟩
  | 37 => ⟨S8x256x3x1, .i32⟩
  | 38 => ⟨S8x256x3x1, .i1⟩
  | 39 => ⟨S8x256x3x1, .i1⟩
  | 40 => ⟨S_, .i1⟩
  | 41 => ⟨S8x256x3, .i1⟩
  | 42 => ⟨S8x256x3, .f32⟩
  | 43 => ⟨S_, .f32⟩
  | 44 => ⟨S8x256x3, .f32⟩
  | 45 => ⟨S8x256x3, .f32⟩
  | 46 => ⟨S8x256x1, .i32⟩
  | 47 => ⟨S8x256x3, .i32⟩
  | 48 => ⟨S_, .i32⟩
  | 49 => ⟨S8x256x3, .i32⟩
  | 50 => ⟨S8x256x3, .i1⟩
  | 51 => ⟨S_, .i32⟩
  | 52 => ⟨S8x256x3, .i32⟩
  | 53 => ⟨S8x256x3, .i32⟩
  | 54 => ⟨S8x256x3, .i32⟩
  | 55 => ⟨S8x256x3x1, .i32⟩
  | 56 => ⟨S1, .i32⟩
  | 57 => ⟨S_, .i32⟩
  | 58 => ⟨S8x256x3x1, .i32⟩
  | 59 => ⟨S8x256x3x1, .i1⟩
  | 60 => ⟨S1x1x1x1, .i32⟩
  | 61 => ⟨S8x256x3x1, .i32⟩
  | 62 => ⟨S8x256x3x1, .i1⟩
  | 63 => ⟨S8x256x3x1, .i1⟩
  | 64 => ⟨S_, .i1⟩
  | 65 => ⟨S8x256x3, .i1⟩
  | 66 => ⟨S8x256x3, .f32⟩
  | 67 => ⟨S_, .f32⟩
  | 68 => ⟨S8x256x3, .f32⟩
  | 69 => ⟨S8x256x3, .f32⟩
  | 70 => ⟨S8x128x4096, .f32⟩
  | 71 => ⟨S8x128x4096, .f32⟩
  | 72 => ⟨S8x1x256, .i32⟩
  | 73 => ⟨S8x128x256, .i32⟩
  | 74 => ⟨S_, .i32⟩
  | 75 => ⟨S8x128x256, .i32⟩
  | 76 => ⟨S8x128x256, .i1⟩
  | 77 => ⟨S_, .i32⟩
  | 78 => ⟨S8x128x256, .i32⟩
  | 79 => ⟨S8x128x256, .i32⟩
  | 80 => ⟨S8x128x256, .i32⟩
  | 81 => ⟨S8x128x256x1, .i32⟩
  | 82 => ⟨S1, .i32⟩
  | 83 => ⟨S_, .i32⟩
  | 84 => ⟨S8x128x256x1, .i32⟩
  | 85 => ⟨S8x128x256x1, .i1⟩
  | 86 => ⟨S1x1x1x1, .i32⟩
  | 87 => ⟨S8x128x256x1, .i32⟩
  | 88 => ⟨S8x128x256x1, .i1⟩
  | 89 => ⟨S8x128x256x1, .i1⟩
  | 90 => ⟨S_, .i1⟩
  | 91 => ⟨S8x128x256, .i1⟩
  | 92 => ⟨S8x128x256, .f32⟩
  | 93 => ⟨S_, .f32⟩
  | 94 => ⟨S8x128x256, .f32⟩
  | 95 => ⟨S8x128x256, .f32⟩
  | 96 => ⟨S8x1x256, .i32⟩
  | 97 => ⟨S8x128x256, .i32⟩
  | 98 => ⟨S_, .i32⟩
  | 99 => ⟨S8x128x256, .i32⟩
  | 100 => ⟨S8x128x256, .i1⟩
  | 101 => ⟨S_, .i32⟩
  | 102 => ⟨S8x128x256, .i32⟩
  | 103 => ⟨S8x128x256, .i32⟩
  | 104 => ⟨S8x128x256, .i32⟩
  | 105 => ⟨S8x128x256x1, .i32⟩
  | 106 => ⟨S1, .i32⟩
  | 107 => ⟨S_, .i32⟩
  | 108 => ⟨S8x128x256x1, .i32⟩
  | 109 => ⟨S8x128x256x1, .i1⟩
  | 110 => ⟨S1x1x1x1, .i32⟩
  | 111 => ⟨S8x128x256x1, .i32⟩
  | 112 => ⟨S8x128x256x1, .i1⟩
  | 113 => ⟨S8x128x256x1, .i1⟩
  | 114 => ⟨S_, .i1⟩
  | 115 => ⟨S8x128x256, .i1⟩
  | 116 => ⟨S8x128x256, .f32⟩
  | 117 => ⟨S_, .f32⟩
  | 118 => ⟨S8x128x256, .f32⟩
  | 119 => ⟨S8x128x256, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S8x4096x128, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | _ => ⟨S8x4096x128, .f32⟩

abbrev hbmTy (i : Nat) : BufTy := match i / 128 with
  | 0 => hbmTy0_0 i
  | 1 => hbmTy0_1 i
  | 2 => hbmTy0_2 i
  | _ => ⟨S8x4096x128, .f32⟩

abbrev bufTy : (tb : Table) → Fin (tcTables nBuf tb) → BufTy
  | .hbm, ⟨i, _⟩ => hbmTy i
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_cst_7 : Ref sig .tc := ⟨.hbm, 31, rfl⟩
abbrev main_v18 : Ref sig .tc := ⟨.hbm, 32, rfl⟩
abbrev main_v19 : Ref sig .tc := ⟨.hbm, 33, rfl⟩
abbrev main_cst_8 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_c_9 : Ref sig .tc := ⟨.hbm, 38, rfl⟩
abbrev main_v22 : Ref sig .tc := ⟨.hbm, 39, rfl⟩
abbrev main_c_10 : Ref sig .tc := ⟨.hbm, 40, rfl⟩
abbrev main_v23_0 : Ref sig .tc := ⟨.hbm, 41, rfl⟩
abbrev main_v23_1 : Ref sig .tc := ⟨.hbm, 42, rfl⟩
abbrev main_v23_2 : Ref sig .tc := ⟨.hbm, 43, rfl⟩
abbrev main_v23_3 : Ref sig .tc := ⟨.hbm, 44, rfl⟩
abbrev main_v23_4 : Ref sig .tc := ⟨.hbm, 45, rfl⟩
abbrev main_while0c_c_27 : Ref sig .tc := ⟨.hbm, 46, rfl⟩
abbrev main_while0c_v59 : Ref sig .tc := ⟨.hbm, 47, rfl⟩
abbrev main_while0b_v59 : Ref sig .tc := ⟨.hbm, 48, rfl⟩
abbrev main_while0b_v60 : Ref sig .tc := ⟨.hbm, 49, rfl⟩
abbrev main_while0b_call0_c : Ref sig .tc := ⟨.hbm, 50, rfl⟩
abbrev main_while0b_call0_v0 : Ref sig .tc := ⟨.hbm, 51, rfl⟩
abbrev main_while0b_call0_v1 : Ref sig .tc := ⟨.hbm, 52, rfl⟩
abbrev main_while0b_call0_c_0 : Ref sig .tc := ⟨.hbm, 53, rfl⟩
abbrev main_while0b_call0_v2 : Ref sig .tc := ⟨.hbm, 54, rfl⟩
abbrev main_while0b_call0_v3 : Ref sig .tc := ⟨.hbm, 55, rfl⟩
abbrev main_while0b_call0_v4 : Ref sig .tc := ⟨.hbm, 56, rfl⟩
abbrev main_while0b_call0_v5 : Ref sig .tc := ⟨.hbm, 57, rfl⟩
abbrev main_while0b_call0_c_1 : Ref sig .tc := ⟨.hbm, 58, rfl⟩
abbrev main_while0b_call0_c_2 : Ref sig .tc := ⟨.hbm, 59, rfl⟩
abbrev main_while0b_call0_v6 : Ref sig .tc := ⟨.hbm, 60, rfl⟩
abbrev main_while0b_call0_v7 : Ref sig .tc := ⟨.hbm, 61, rfl⟩
abbrev main_while0b_call0_v8 : Ref sig .tc := ⟨.hbm, 62, rfl⟩
abbrev main_while0b_call0_v9 : Ref sig .tc := ⟨.hbm, 63, rfl⟩
abbrev main_while0b_call0_v10 : Ref sig .tc := ⟨.hbm, 64, rfl⟩
abbrev main_while0b_call0_v11 : Ref sig .tc := ⟨.hbm, 65, rfl⟩
abbrev main_while0b_call0_c_3 : Ref sig .tc := ⟨.hbm, 66, rfl⟩
abbrev main_while0b_call0_v12 : Ref sig .tc := ⟨.hbm, 67, rfl⟩
abbrev main_while0b_call0_v13 : Ref sig .tc := ⟨.hbm, 68, rfl⟩
abbrev main_while0b_call0_cst : Ref sig .tc := ⟨.hbm, 69, rfl⟩
abbrev main_while0b_call0_v14 : Ref sig .tc := ⟨.hbm, 70, rfl⟩
abbrev main_while0b_v61 : Ref sig .tc := ⟨.hbm, 71, rfl⟩
abbrev main_while0b_v62 : Ref sig .tc := ⟨.hbm, 72, rfl⟩
abbrev main_while0b_v63 : Ref sig .tc := ⟨.hbm, 73, rfl⟩
abbrev main_while0b_v64 : Ref sig .tc := ⟨.hbm, 74, rfl⟩
abbrev main_while0b_cst_27 : Ref sig .tc := ⟨.hbm, 75, rfl⟩
abbrev main_while0b_v65 : Ref sig .tc := ⟨.hbm, 76, rfl⟩
abbrev main_while0b_v66 : Ref sig .tc := ⟨.hbm, 77, rfl⟩
abbrev main_while0b_call1_v0 : Ref sig .tc := ⟨.hbm, 78, rfl⟩
abbrev main_while0b_call1_cst : Ref sig .tc := ⟨.hbm, 79, rfl⟩
abbrev main_while0b_call1_c : Ref sig .tc := ⟨.hbm, 80, rfl⟩
abbrev main_while0b_call1_v1_0 : Ref sig .tc := ⟨.hbm, 81, rfl⟩
abbrev main_while0b_v67 : Ref sig .tc := ⟨.hbm, 82, rfl⟩
abbrev main_while0b_call2_v0 : Ref sig .tc := ⟨.hbm, 83, rfl⟩
abbrev main_while0b_call2_c : Ref sig .tc := ⟨.hbm, 84, rfl⟩
abbrev main_while0b_v68 : Ref sig .tc := ⟨.hbm, 85, rfl⟩
abbrev main_while0b_c_28 : Ref sig .tc := ⟨.hbm, 86, rfl⟩
abbrev main_while0b_v69 : Ref sig .tc := ⟨.hbm, 87, rfl⟩
abbrev main_c_11 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_cst_12 : Ref sig .tc := ⟨.hbm, 92, rfl⟩
abbrev main_v27 : Ref sig .tc := ⟨.hbm, 93, rfl⟩
abbrev main_c_13 : Ref sig .tc := ⟨.hbm, 94, rfl⟩
abbrev main_v28 : Ref sig .tc := ⟨.hbm, 95, rfl⟩
abbrev main_c_14 : Ref sig .tc := ⟨.hbm, 96, rfl⟩
abbrev main_v29 : Ref sig .tc := ⟨.hbm, 97, rfl⟩
abbrev main_c_15 : Ref sig .tc := ⟨.hbm, 98, rfl⟩
abbrev main_v30_0 : Ref sig .tc := ⟨.hbm, 99, rfl⟩
abbrev main_v30_1 : Ref sig .tc := ⟨.hbm, 100, rfl⟩
abbrev main_v30_2 : Ref sig .tc := ⟨.hbm, 101, rfl⟩
abbrev main_v30_3 : Ref sig .tc := ⟨.hbm, 102, rfl⟩
abbrev main_v30_4 : Ref sig .tc := ⟨.hbm, 103, rfl⟩
abbrev main_while1c_c_27 : Ref sig .tc := ⟨.hbm, 104, rfl⟩
abbrev main_while1c_v59 : Ref sig .tc := ⟨.hbm, 105, rfl⟩
abbrev main_while1b_v59 : Ref sig .tc := ⟨.hbm, 106, rfl⟩
abbrev main_while1b_v60 : Ref sig .tc := ⟨.hbm, 107, rfl⟩
abbrev main_while1b_call3_c : Ref sig .tc := ⟨.hbm, 108, rfl⟩
abbrev main_while1b_call3_v0 : Ref sig .tc := ⟨.hbm, 109, rfl⟩
abbrev main_while1b_call3_v1 : Ref sig .tc := ⟨.hbm, 110, rfl⟩
abbrev main_while1b_call3_c_0 : Ref sig .tc := ⟨.hbm, 111, rfl⟩
abbrev main_while1b_call3_v2 : Ref sig .tc := ⟨.hbm, 112, rfl⟩
abbrev main_while1b_call3_v3 : Ref sig .tc := ⟨.hbm, 113, rfl⟩
abbrev main_while1b_call3_v4 : Ref sig .tc := ⟨.hbm, 114, rfl⟩
abbrev main_while1b_call3_v5 : Ref sig .tc := ⟨.hbm, 115, rfl⟩
abbrev main_while1b_call3_c_1 : Ref sig .tc := ⟨.hbm, 116, rfl⟩
abbrev main_while1b_call3_c_2 : Ref sig .tc := ⟨.hbm, 117, rfl⟩
abbrev main_while1b_call3_v6 : Ref sig .tc := ⟨.hbm, 118, rfl⟩
abbrev main_while1b_call3_v7 : Ref sig .tc := ⟨.hbm, 119, rfl⟩
abbrev main_while1b_call3_v8 : Ref sig .tc := ⟨.hbm, 120, rfl⟩
abbrev main_while1b_call3_v9 : Ref sig .tc := ⟨.hbm, 121, rfl⟩
abbrev main_while1b_call3_v10 : Ref sig .tc := ⟨.hbm, 122, rfl⟩
abbrev main_while1b_call3_v11 : Ref sig .tc := ⟨.hbm, 123, rfl⟩
abbrev main_while1b_call3_c_3 : Ref sig .tc := ⟨.hbm, 124, rfl⟩
abbrev main_while1b_call3_v12 : Ref sig .tc := ⟨.hbm, 125, rfl⟩
abbrev main_while1b_call3_v13 : Ref sig .tc := ⟨.hbm, 126, rfl⟩
abbrev main_while1b_call3_cst : Ref sig .tc := ⟨.hbm, 127, rfl⟩
abbrev main_while1b_call3_v14 : Ref sig .tc := ⟨.hbm, 128, rfl⟩
abbrev main_while1b_v61 : Ref sig .tc := ⟨.hbm, 129, rfl⟩
abbrev main_while1b_v62 : Ref sig .tc := ⟨.hbm, 130, rfl⟩
abbrev main_while1b_v63 : Ref sig .tc := ⟨.hbm, 131, rfl⟩
abbrev main_while1b_v64 : Ref sig .tc := ⟨.hbm, 132, rfl⟩
abbrev main_while1b_cst_27 : Ref sig .tc := ⟨.hbm, 133, rfl⟩
abbrev main_while1b_v65 : Ref sig .tc := ⟨.hbm, 134, rfl⟩
abbrev main_while1b_v66 : Ref sig .tc := ⟨.hbm, 135, rfl⟩
abbrev main_while1b_call4_v0 : Ref sig .tc := ⟨.hbm, 136, rfl⟩
abbrev main_while1b_call4_cst : Ref sig .tc := ⟨.hbm, 137, rfl⟩
abbrev main_while1b_call4_c : Ref sig .tc := ⟨.hbm, 138, rfl⟩
abbrev main_while1b_call4_v1_0 : Ref sig .tc := ⟨.hbm, 139, rfl⟩
abbrev main_while1b_v67 : Ref sig .tc := ⟨.hbm, 140, rfl⟩
abbrev main_while1b_call5_v0 : Ref sig .tc := ⟨.hbm, 141, rfl⟩
abbrev main_while1b_call5_c : Ref sig .tc := ⟨.hbm, 142, rfl⟩
abbrev main_while1b_v68 : Ref sig .tc := ⟨.hbm, 143, rfl⟩
abbrev main_while1b_c_28 : Ref sig .tc := ⟨.hbm, 144, rfl⟩
abbrev main_while1b_v69 : Ref sig .tc := ⟨.hbm, 145, rfl⟩
abbrev main_c_16 : Ref sig .tc := ⟨.hbm, 146, rfl⟩
abbrev main_v31 : Ref sig .tc := ⟨.hbm, 147, rfl⟩
abbrev main_v32 : Ref sig .tc := ⟨.hbm, 148, rfl⟩
abbrev main_v33 : Ref sig .tc := ⟨.hbm, 149, rfl⟩
abbrev main_v34 : Ref sig .tc := ⟨.hbm, 150, rfl⟩
abbrev main_v35 : Ref sig .tc := ⟨.hbm, 151, rfl⟩
abbrev main_call6_c : Ref sig .tc := ⟨.hbm, 152, rfl⟩
abbrev main_call6_v0 : Ref sig .tc := ⟨.hbm, 153, rfl⟩
abbrev main_call6_v1 : Ref sig .tc := ⟨.hbm, 154, rfl⟩
abbrev main_call6_c_0 : Ref sig .tc := ⟨.hbm, 155, rfl⟩
abbrev main_call6_v2 : Ref sig .tc := ⟨.hbm, 156, rfl⟩
abbrev main_call6_v3 : Ref sig .tc := ⟨.hbm, 157, rfl⟩
abbrev main_call6_v4 : Ref sig .tc := ⟨.hbm, 158, rfl⟩
abbrev main_call6_v5 : Ref sig .tc := ⟨.hbm, 159, rfl⟩
abbrev main_call6_c_1 : Ref sig .tc := ⟨.hbm, 160, rfl⟩
abbrev main_call6_c_2 : Ref sig .tc := ⟨.hbm, 161, rfl⟩
abbrev main_call6_v6 : Ref sig .tc := ⟨.hbm, 162, rfl⟩
abbrev main_call6_v7 : Ref sig .tc := ⟨.hbm, 163, rfl⟩
abbrev main_call6_v8 : Ref sig .tc := ⟨.hbm, 164, rfl⟩
abbrev main_call6_v9 : Ref sig .tc := ⟨.hbm, 165, rfl⟩
abbrev main_call6_v10 : Ref sig .tc := ⟨.hbm, 166, rfl⟩
abbrev main_call6_v11 : Ref sig .tc := ⟨.hbm, 167, rfl⟩
abbrev main_call6_c_3 : Ref sig .tc := ⟨.hbm, 168, rfl⟩
abbrev main_call6_v12 : Ref sig .tc := ⟨.hbm, 169, rfl⟩
abbrev main_call6_v13 : Ref sig .tc := ⟨.hbm, 170, rfl⟩
abbrev main_call6_cst : Ref sig .tc := ⟨.hbm, 171, rfl⟩
abbrev main_call6_v14 : Ref sig .tc := ⟨.hbm, 172, rfl⟩
abbrev main_v36 : Ref sig .tc := ⟨.hbm, 173, rfl⟩
abbrev main_v37 : Ref sig .tc := ⟨.hbm, 174, rfl⟩
abbrev main_v38 : Ref sig .tc := ⟨.hbm, 175, rfl⟩
abbrev main_call7_c : Ref sig .tc := ⟨.hbm, 176, rfl⟩
abbrev main_call7_v0 : Ref sig .tc := ⟨.hbm, 177, rfl⟩
abbrev main_call7_v1 : Ref sig .tc := ⟨.hbm, 178, rfl⟩
abbrev main_call7_c_0 : Ref sig .tc := ⟨.hbm, 179, rfl⟩
abbrev main_call7_v2 : Ref sig .tc := ⟨.hbm, 180, rfl⟩
abbrev main_call7_v3 : Ref sig .tc := ⟨.hbm, 181, rfl⟩
abbrev main_call7_v4 : Ref sig .tc := ⟨.hbm, 182, rfl⟩
abbrev main_call7_v5 : Ref sig .tc := ⟨.hbm, 183, rfl⟩
abbrev main_call7_c_1 : Ref sig .tc := ⟨.hbm, 184, rfl⟩
abbrev main_call7_c_2 : Ref sig .tc := ⟨.hbm, 185, rfl⟩
abbrev main_call7_v6 : Ref sig .tc := ⟨.hbm, 186, rfl⟩
abbrev main_call7_v7 : Ref sig .tc := ⟨.hbm, 187, rfl⟩
abbrev main_call7_v8 : Ref sig .tc := ⟨.hbm, 188, rfl⟩
abbrev main_call7_v9 : Ref sig .tc := ⟨.hbm, 189, rfl⟩
abbrev main_call7_v10 : Ref sig .tc := ⟨.hbm, 190, rfl⟩
abbrev main_call7_v11 : Ref sig .tc := ⟨.hbm, 191, rfl⟩
abbrev main_call7_c_3 : Ref sig .tc := ⟨.hbm, 192, rfl⟩
abbrev main_call7_v12 : Ref sig .tc := ⟨.hbm, 193, rfl⟩
abbrev main_call7_v13 : Ref sig .tc := ⟨.hbm, 194, rfl⟩
abbrev main_call7_cst : Ref sig .tc := ⟨.hbm, 195, rfl⟩
abbrev main_call7_v14 : Ref sig .tc := ⟨.hbm, 196, rfl⟩
abbrev main_v39 : Ref sig .tc := ⟨.hbm, 197, rfl⟩
abbrev main_v40 : Ref sig .tc := ⟨.hbm, 198, rfl⟩
abbrev main_v41 : Ref sig .tc := ⟨.hbm, 199, rfl⟩
abbrev main_v42 : Ref sig .tc := ⟨.hbm, 200, rfl⟩
abbrev main_v43 : Ref sig .tc := ⟨.hbm, 201, rfl⟩
abbrev main_call8_c : Ref sig .tc := ⟨.hbm, 202, rfl⟩
abbrev main_call8_v0 : Ref sig .tc := ⟨.hbm, 203, rfl⟩
abbrev main_call8_v1 : Ref sig .tc := ⟨.hbm, 204, rfl⟩
abbrev main_call8_c_0 : Ref sig .tc := ⟨.hbm, 205, rfl⟩
abbrev main_call8_v2 : Ref sig .tc := ⟨.hbm, 206, rfl⟩
abbrev main_call8_v3 : Ref sig .tc := ⟨.hbm, 207, rfl⟩
abbrev main_call8_v4 : Ref sig .tc := ⟨.hbm, 208, rfl⟩
abbrev main_call8_v5 : Ref sig .tc := ⟨.hbm, 209, rfl⟩
abbrev main_call8_c_1 : Ref sig .tc := ⟨.hbm, 210, rfl⟩
abbrev main_call8_c_2 : Ref sig .tc := ⟨.hbm, 211, rfl⟩
abbrev main_call8_v6 : Ref sig .tc := ⟨.hbm, 212, rfl⟩
abbrev main_call8_v7 : Ref sig .tc := ⟨.hbm, 213, rfl⟩
abbrev main_call8_v8 : Ref sig .tc := ⟨.hbm, 214, rfl⟩
abbrev main_call8_v9 : Ref sig .tc := ⟨.hbm, 215, rfl⟩
abbrev main_call8_v10 : Ref sig .tc := ⟨.hbm, 216, rfl⟩
abbrev main_call8_v11 : Ref sig .tc := ⟨.hbm, 217, rfl⟩
abbrev main_call8_c_3 : Ref sig .tc := ⟨.hbm, 218, rfl⟩
abbrev main_call8_v12 : Ref sig .tc := ⟨.hbm, 219, rfl⟩
abbrev main_call8_v13 : Ref sig .tc := ⟨.hbm, 220, rfl⟩
abbrev main_call8_cst : Ref sig .tc := ⟨.hbm, 221, rfl⟩
abbrev main_call8_v14 : Ref sig .tc := ⟨.hbm, 222, rfl⟩
abbrev main_v44 : Ref sig .tc := ⟨.hbm, 223, rfl⟩
abbrev main_v45 : Ref sig .tc := ⟨.hbm, 224, rfl⟩
abbrev main_v46 : Ref sig .tc := ⟨.hbm, 225, rfl⟩
abbrev main_call9_c : Ref sig .tc := ⟨.hbm, 226, rfl⟩
abbrev main_call9_v0 : Ref sig .tc := ⟨.hbm, 227, rfl⟩
abbrev main_call9_v1 : Ref sig .tc := ⟨.hbm, 228, rfl⟩
abbrev main_call9_c_0 : Ref sig .tc := ⟨.hbm, 229, rfl⟩
abbrev main_call9_v2 : Ref sig .tc := ⟨.hbm, 230, rfl⟩
abbrev main_call9_v3 : Ref sig .tc := ⟨.hbm, 231, rfl⟩
abbrev main_call9_v4 : Ref sig .tc := ⟨.hbm, 232, rfl⟩
abbrev main_call9_v5 : Ref sig .tc := ⟨.hbm, 233, rfl⟩
abbrev main_call9_c_1 : Ref sig .tc := ⟨.hbm, 234, rfl⟩
abbrev main_call9_c_2 : Ref sig .tc := ⟨.hbm, 235, rfl⟩
abbrev main_call9_v6 : Ref sig .tc := ⟨.hbm, 236, rfl⟩
abbrev main_call9_v7 : Ref sig .tc := ⟨.hbm, 237, rfl⟩
abbrev main_call9_v8 : Ref sig .tc := ⟨.hbm, 238, rfl⟩
abbrev main_call9_v9 : Ref sig .tc := ⟨.hbm, 239, rfl⟩
abbrev main_call9_v10 : Ref sig .tc := ⟨.hbm, 240, rfl⟩
abbrev main_call9_v11 : Ref sig .tc := ⟨.hbm, 241, rfl⟩
abbrev main_call9_c_3 : Ref sig .tc := ⟨.hbm, 242, rfl⟩
abbrev main_call9_v12 : Ref sig .tc := ⟨.hbm, 243, rfl⟩
abbrev main_call9_v13 : Ref sig .tc := ⟨.hbm, 244, rfl⟩
abbrev main_call9_cst : Ref sig .tc := ⟨.hbm, 245, rfl⟩
abbrev main_call9_v14 : Ref sig .tc := ⟨.hbm, 246, rfl⟩
abbrev main_v47 : Ref sig .tc := ⟨.hbm, 247, rfl⟩
abbrev main_cst_17 : Ref sig .tc := ⟨.hbm, 248, rfl⟩
abbrev main_v48 : Ref sig .tc := ⟨.hbm, 249, rfl⟩
abbrev main_cst_18 : Ref sig .tc := ⟨.hbm, 250, rfl⟩
abbrev main_v49 : Ref sig .tc := ⟨.hbm, 251, rfl⟩
abbrev main_v50 : Ref sig .tc := ⟨.hbm, 252, rfl⟩
abbrev main_cst_19 : Ref sig .tc := ⟨.hbm, 253, rfl⟩
abbrev main_v51 : Ref sig .tc := ⟨.hbm, 254, rfl⟩
abbrev main_v52 : Ref sig .tc := ⟨.hbm, 255, rfl⟩
abbrev main_cst_20 : Ref sig .tc := ⟨.hbm, 256, rfl⟩
abbrev main_v53 : Ref sig .tc := ⟨.hbm, 257, rfl⟩
abbrev main_v54 : Ref sig .tc := ⟨.hbm, 258, rfl⟩
abbrev main_cst_21 : Ref sig .tc := ⟨.hbm, 259, rfl⟩
abbrev main_v55 : Ref sig .tc := ⟨.hbm, 260, rfl⟩
abbrev main_v56 : Ref sig .tc := ⟨.hbm, 261, rfl⟩
abbrev main_cst_22 : Ref sig .tc := ⟨.hbm, 262, rfl⟩
abbrev main_v57 : Ref sig .tc := ⟨.hbm, 263, rfl⟩
abbrev main_v58 : Ref sig .tc := ⟨.hbm, 264, rfl⟩

abbrev nD : Nat := 1
abbrev τ : Topo := Topo.v7x

variable {F : FTy → Type} [FloatOps F]

abbrev main_while0_count : Scf.Loop 32 := ⟨0#32, 255#32, 1#32⟩

abbrev main_while1_count : Scf.Loop 32 := ⟨0#32, 255#32, 1#32⟩
-- ==== Proof.Line.lean ====
/- Straight-line stretches of a host program, read off the program itself.

   A `Line p` says that the program `p` begins with a list of host operations and then continues as another program; it also lists the buffers
   those operations write. Lines are put together one operation (`Line.step`) or one called function (`Line.call`) at a time, so the lists are
   computed from the program and never written out a second time. -/
module

public import Idealize.ShloMosaic.Lib.StableHlo.RunLoop
public import Idealize.ShloMosaic.Lib.StableHlo.RunRead

@[expose] public section

noncomputable section

namespace Cert.Proof

open Idealize.ShloMosaic Idealize.ShloMosaic.StableHlo Idealize.SL.Sem

variable {nD : Nat} {τ : Topo} {sig : RefSig} {Val : EltTy → Type} {Λ : Labels}

/-- The references in `W` as device references. -/
abbrev refSet (W : List (Ref sig .tc)) : Finset (DevRef τ sig) := (W.map (Proc.devRef (τ := τ) .tc)).toFinset

/-- The program `p` runs the host operations `ops` and goes on as `rest`; every operation names TensorCore buffers only, none allocates, and
    together they write the buffers `W` only. -/
structure Line (p : Prog (TpuEff nD τ sig Val Λ .tc) PUnit) where
  ops : List (HloOp τ sig Val)
  rest : Prog (TpuEff nD τ sig Val Λ .tc) PUnit
  W : List (Ref sig .tc)
  eq : p = (seq ops >>= fun _ => rest)
  sub : ∀ op ∈ ops, op.bufs ⊆ tcRefs τ sig
  fresh : ∀ op ∈ ops, op.fresh = ∅
  writes : ∀ op ∈ ops, op.writes ⊆ refSet W

namespace Line

variable {p p₁ : Prog (TpuEff nD τ sig Val Λ .tc) PUnit}

/-- No operation at all. -/
def stop (p : Prog (TpuEff nD τ sig Val Λ .tc) PUnit) : Line p where
  ops := []
  rest := p
  W := []
  eq := rfl
  sub := fun _ h => nomatch h
  fresh := fun _ h => nomatch h
  writes := fun _ h => nomatch h

theorem refSet_cons {r : Ref sig .tc} {W : List (Ref sig .tc)} : (refSet W : Finset (DevRef τ sig)) ⊆ refSet (r :: W) := by
  intro x hx
  rw [refSet, List.mem_toFinset] at hx ⊢
  exact List.mem_cons_of_mem _ hx

theorem refSet_left {W W' : List (Ref sig .tc)} : (refSet W : Finset (DevRef τ sig)) ⊆ refSet (W ++ W') := by
  intro x hx
  rw [refSet, List.mem_toFinset] at hx ⊢
  rw [List.map_append]; exact List.mem_append_left _ hx

theorem refSet_right {W W' : List (Ref sig .tc)} : (refSet W' : Finset (DevRef τ sig)) ⊆ refSet (W ++ W') := by
  intro x hx
  rw [refSet, List.mem_toFinset] at hx ⊢
  rw [List.map_append]; exact List.mem_append_right _ hx

/-- One more operation in front, which writes the one buffer `r`. -/
def step (op : HloOp τ sig Val) (r : Ref sig .tc) (hs : op.bufs ⊆ tcRefs τ sig) (hf : op.fresh = ∅) (hw : op.writes = {Proc.devRef .tc r})
    (h : Line p) : Line ((hlo rfl op (fun _ => .ret ⟨⟩) : Prog (TpuEff nD τ sig Val Λ .tc) PUnit) >>= fun _ => p) where
  ops := op :: h.ops
  rest := h.rest
  W := r :: h.W
  eq := by
    rw [seq, bind_assoc]
    exact congrArg _ (funext fun _ => h.eq)
  sub := fun o ho => by
    rcases List.mem_cons.mp ho with rfl | ho
    · exact hs
    · exact h.sub o ho
  fresh := fun o ho => by
    rcases List.mem_cons.mp ho with rfl | ho
    · exact hf
    · exact h.fresh o ho
  writes := fun o ho => by
    rcases List.mem_cons.mp ho with rfl | ho
    · rw [hw]; intro x hx
      rw [refSet, List.mem_toFinset, Finset.mem_singleton.mp hx]
      exact List.mem_cons_self
    · exact (h.writes o ho).trans refSet_cons

/-- A last operation, nothing after it. -/
def last (op : HloOp τ sig Val) (r : Ref sig .tc) (hs : op.bufs ⊆ tcRefs τ sig) (hf : op.fresh = ∅) (hw : op.writes = {Proc.devRef .tc r}) :
    Line (hlo rfl op (fun _ => .ret ⟨⟩) : Prog (TpuEff nD τ sig Val Λ .tc) PUnit) :=
  step op r hs hf hw (stop (pure ⟨⟩))

section Kinds

variable {a b c e x y : Ref sig .tc}

/-- `step` at an operation of no operand. -/
def nullary {v hy} (h : Line p) : Line ((hlo rfl (StableHlo.nullary (τ := τ) y v hy) (fun _ => .ret ⟨⟩) : Prog (TpuEff nD τ sig Val Λ .tc) PUnit) >>= fun _ => p) :=
  step _ _ (nullary_bufs_sub ..) rfl rfl h

/-- `step` at an operation of one operand. -/
def unary {f hx hy} (h : Line p) : Line ((hlo rfl (StableHlo.unary (τ := τ) x y f hx hy) (fun _ => .ret ⟨⟩) : Prog (TpuEff nD τ sig Val Λ .tc) PUnit) >>= fun _ => p) :=
  step _ _ (unary_bufs_sub ..) rfl rfl h

/-- `step` at a reshape. -/
def reshape {he hn hx hy} (h : Line p) : Line ((hlo rfl (StableHlo.reshape (τ := τ) x y he hn hx hy) (fun _ => .ret ⟨⟩) : Prog (TpuEff nD τ sig Val Λ .tc) PUnit) >>= fun _ => p) :=
  step _ _ (reshape_bufs_sub ..) rfl rfl h

/-- `step` at an operation of two operands. -/
def binary {f ha hb hy} (h : Line p) : Line ((hlo rfl (StableHlo.binary (τ := τ) a b y f ha hb hy) (fun _ => .ret ⟨⟩) : Prog (TpuEff nD τ sig Val Λ .tc) PUnit) >>= fun _ => p) :=
  step _ _ (binary_bufs_sub ..) rfl rfl h

/-- `step` at an operation of three operands. -/
def ternary {f hc ha hb hy} (h : Line p) : Line ((hlo rfl (StableHlo.ternary (τ := τ) c a b y f hc ha hb hy) (fun _ => .ret ⟨⟩) : Prog (TpuEff nD τ sig Val Λ .tc) PUnit) >>= fun _ => p) :=
  step _ _ (ternary_bufs_sub ..) rfl rfl h

/-- `step` at an operation of four operands. -/
def quaternary {f ha hb hc he hy} (h : Line p) : Line ((hlo rfl (StableHlo.quaternary (τ := τ) a b c e y f ha hb hc he hy) (fun _ => .ret ⟨⟩) : Prog (TpuEff nD τ sig Val Λ .tc) PUnit) >>= fun _ => p) :=
  step _ _ (quaternary_bufs_sub ..) rfl rfl h

/-- `step` at an operation of two operands and some indices. -/
def binaryIndexed {n : Nat} {ix : Fin n → Ref sig .tc} {T f hT ha hb hix hy} (h : Line p) :
    Line ((hlo rfl (StableHlo.binaryIndexed (τ := τ) a b ix T y f hT ha hb hix hy) (fun _ => .ret ⟨⟩) : Prog (TpuEff nD τ sig Val Λ .tc) PUnit) >>= fun _ => p) :=
  step _ _ (binaryIndexed_bufs_sub ..) rfl rfl h

end Kinds

/-- A called function of host operations in front. -/
def call (h₁ : Line p₁) (hr : h₁.rest = pure ⟨⟩) (h : Line p) : Line (p₁ >>= fun _ => p) where
  ops := h₁.ops ++ h.ops
  rest := h.rest
  W := h₁.W ++ h.W
  eq := by
    refine (congrArg (· >>= fun _ => p) h₁.eq).trans ?_
    rw [hr, seq_append, bind_assoc, bind_assoc]
    exact congrArg _ (funext fun _ => (pure_bind _ _).trans h.eq)
  sub := fun o ho => (List.mem_append.mp ho).elim (h₁.sub o) (h.sub o)
  fresh := fun o ho => (List.mem_append.mp ho).elim (h₁.fresh o) (h.fresh o)
  writes := fun o ho => (List.mem_append.mp ho).elim (fun h' => (h₁.writes o h').trans refSet_left) (fun h' => (h.writes o h').trans refSet_right)

/-- A buffer that the line does not write keeps its contents. -/
theorem keeps (h : Line p) (V : Valuation τ sig Val) {r : Ref sig .tc} (hr : r ∉ h.W) : after h.ops V (Proc.devRef .tc r) = V (Proc.devRef .tc r) :=
  after_of_writes_sub h.ops V (List.forall_iff_forall_mem.mpr h.writes) hr

end Line

end Cert.Proof

end
-- ==== Proof.RefLine.lean ====
/- The reference program's stretches of host operations: its functions, the bodies of its two loops, and the three stretches of its @main. -/
module

public import proofs.«01_k».proof.Proof.Gen.ReferenceIdeal
public import proofs.«01_k».proof.Proof.Line

@[expose] public section

set_option maxRecDepth 16384

noncomputable section

namespace Cert.Proof.Ref

open Cert.ReferenceIdeal Cert.ReferenceIdeal.Gen
open Idealize.ShloMosaic Idealize.ShloMosaic.StableHlo Idealize.ShloMosaic.TcCoe Idealize.SL.Sem

variable {F : FTy → Type} [FloatOps F]

/-! ## The functions -/

/-- The gather of one point per batch entry. -/
def takeRow (a : TRef sig ⟨S8x4096x3, .f32⟩) (b : TRef sig ⟨S8x1x3, .i32⟩) (φ : fn_take_along_axis.Bufs) :
    Line (fn_take_along_axis.body (F := F) a b φ) := by
  refine .nullary ?_; refine .unary ?_; refine .binary ?_; refine .nullary ?_; refine .unary ?_; refine .binary ?_
  refine .ternary ?_; refine .reshape ?_; refine .nullary ?_; refine .nullary ?_; refine .unary ?_; refine .binary ?_
  refine .unary ?_; refine .unary ?_; refine .binary ?_; refine .binary ?_; refine .nullary ?_; refine .binary ?_
  refine .binary ?_; refine .nullary ?_; refine .unary ?_; refine .ternary ?_
  exact .stop _

/-- The position of the largest entry of each row. -/
def argmaxRow (a : TRef sig ⟨S8x4096, .f32⟩) (φ : fn_argmax.Bufs) : Line (fn_argmax.body (F := F) a φ) := by
  refine .nullary ?_; refine .nullary ?_; refine .nullary ?_; refine .quaternary ?_; refine .quaternary ?_
  exact .stop _

/-- The write of one row of the sampled positions. -/
def putRow (a : TRef sig ⟨S255x8, .i32⟩) (b : TRef sig ⟨S8, .i32⟩) (d : TRef sig ⟨S_, .i32⟩) (φ : fn_dynamic_update_index_in_dim.Bufs) :
    Line (fn_dynamic_update_index_in_dim.body (F := F) a b d φ) := by
  refine .unary ?_; refine .nullary ?_; refine .binaryIndexed ?_
  exact .stop _

/-- The gather of the sampled points. -/
def takePoints (a : TRef sig ⟨S8x4096x3, .f32⟩) (b : TRef sig ⟨S8x256x3, .i32⟩) (φ : fn_take_along_axis_0.Bufs) :
    Line (fn_take_along_axis_0.body (F := F) a b φ) := by
  refine .nullary ?_; refine .unary ?_; refine .binary ?_; refine .nullary ?_; refine .unary ?_; refine .binary ?_
  refine .ternary ?_; refine .reshape ?_; refine .nullary ?_; refine .nullary ?_; refine .unary ?_; refine .binary ?_
  refine .unary ?_; refine .unary ?_; refine .binary ?_; refine .binary ?_; refine .nullary ?_; refine .binary ?_
  refine .binary ?_; refine .nullary ?_; refine .unary ?_; refine .ternary ?_
  exact .stop _

/-- The gather of the sampled features. -/
def takeFeatures (a : TRef sig ⟨S8x128x4096, .f32⟩) (b : TRef sig ⟨S8x128x256, .i32⟩) (φ : fn_take_along_axis_1.Bufs) :
    Line (fn_take_along_axis_1.body (F := F) a b φ) := by
  refine .nullary ?_; refine .unary ?_; refine .binary ?_; refine .nullary ?_; refine .unary ?_; refine .binary ?_
  refine .ternary ?_; refine .reshape ?_; refine .nullary ?_; refine .nullary ?_; refine .unary ?_; refine .binary ?_
  refine .unary ?_; refine .unary ?_; refine .binary ?_; refine .binary ?_; refine .nullary ?_; refine .binary ?_
  refine .binary ?_; refine .nullary ?_; refine .unary ?_; refine .ternary ?_
  exact .stop _

/-! ## The loops' bodies -/

/-- Loop 0's body up to the new distances and positions. -/
def front0 : Line (main_while0_body (F := F)) := by
  refine .unary ?_; refine .unary ?_
  refine .call (takeRow _ _ _) rfl ?_
  refine .unary ?_; refine .binary ?_; refine .binary ?_; refine .nullary ?_; refine .binary ?_; refine .binary ?_
  refine .call (argmaxRow _ _) rfl ?_
  refine .call (putRow _ _ _ _) rfl ?_
  exact .stop _

/-- Loop 0's body from there: the counter's increment and the copies of the carried values. -/
def tail0 : Line (front0 (F := F)).rest := by
  refine .nullary ?_; refine .binary ?_; refine .unary ?_; refine .unary ?_; refine .unary ?_; refine .unary ?_
  exact .stop _

/-- Loop 1's body up to the new distances and positions. -/
def front1 : Line (main_while1_body (F := F)) := by
  refine .unary ?_; refine .unary ?_
  refine .call (takeRow _ _ _) rfl ?_
  refine .unary ?_; refine .binary ?_; refine .binary ?_; refine .nullary ?_; refine .binary ?_; refine .binary ?_
  refine .call (argmaxRow _ _) rfl ?_
  refine .call (putRow _ _ _ _) rfl ?_
  exact .stop _

/-- Loop 1's body from there: the counter's increment and the copies of the carried values. -/
def tail1 : Line (front1 (F := F)).rest := by
  refine .nullary ?_; refine .binary ?_; refine .unary ?_; refine .unary ?_; refine .unary ?_; refine .unary ?_
  exact .stop _

/-! ## @main's stretches -/

/-- A program that enters loop `l` and goes on as `rest`. -/
structure AtLoop (l : Fin 2) (p : Prog (TpuEff nD τ sig (Elt F) (HostLoop.Sig (Pipeline.Sig Λ₀ (Fin 0) fun q => (pcfgs (F := F) q).Adm) 2) .tc) PUnit) where
  rest : Prog (TpuEff nD τ sig (Elt F) (HostLoop.Sig (Pipeline.Sig Λ₀ (Fin 0) fun q => (pcfgs (F := F) q).Adm) 2) .tc) PUnit
  eq : p = (HostLoop.enter l >>= fun _ => rest)

variable (c : Dev nD)

/-- The operations that compute the loss between the two branches. -/
def loss : Line (main_part0 (F := F) c) := by
  refine .binary ?_; refine .nullary ?_; refine .binary ?_; refine .binary ?_; refine .nullary ?_; refine .binary ?_
  refine .unary ?_; refine .binary ?_; refine .nullary ?_; refine .binary ?_; refine .unary ?_; refine .nullary ?_
  refine .unary ?_; refine .binary ?_; refine .nullary ?_; refine .unary ?_; refine .binary ?_; refine .binary ?_
  refine .binary ?_; refine .nullary ?_; refine .binary ?_; refine .nullary ?_; refine .unary ?_; refine .binary ?_
  refine .nullary ?_; refine .binary ?_; refine .nullary ?_; refine .binary ?_; refine .unary ?_
  exact .stop _

/-- The operations up to the first loop. -/
def enter0 : Line (loss (F := F) c).rest := by
  refine .nullary ?_; refine .unary ?_; refine .nullary ?_; refine .unary ?_; refine .nullary ?_; refine .unary ?_
  refine .nullary ?_; refine .unary ?_; refine .unary ?_; refine .unary ?_; refine .unary ?_; refine .unary ?_
  exact .stop _

/-- The first loop comes next. -/
def loop0 : AtLoop 0 (enter0 (F := F) c).rest := ⟨_, rfl⟩

/-- The operations between the loops. -/
def between : Line (loop0 (F := F) c).rest := by
  refine .nullary ?_; refine .unary ?_; refine .unary ?_; refine .binary ?_; refine .nullary ?_; refine .unary ?_
  refine .nullary ?_; refine .unary ?_; refine .nullary ?_; refine .unary ?_; refine .nullary ?_; refine .unary ?_
  refine .unary ?_; refine .unary ?_; refine .unary ?_; refine .unary ?_
  exact .stop _

/-- The second loop comes next. -/
def loop1 : AtLoop 1 (between (F := F) c).rest := ⟨_, rfl⟩

/-- The one operation of @main's first part after the second loop. -/
def after1 : Line (loop1 (F := F) c).rest := by
  exact .last _ _ (nullary_bufs_sub ..) rfl rfl

/-- The operations after both loops up to the last three. -/
def gathers : Line (main_part1 (F := F) c) := by
  refine .unary ?_; refine .unary ?_; refine .binary ?_; refine .unary ?_; refine .unary ?_
  refine .call (takePoints _ _ _) rfl ?_
  refine .unary ?_; refine .unary ?_
  refine .call (takePoints _ _ _) rfl ?_
  refine .unary ?_; refine .unary ?_; refine .unary ?_; refine .unary ?_
  refine .call (takeFeatures _ _ _) rfl ?_
  refine .unary ?_; refine .unary ?_
  refine .call (takeFeatures _ _ _) rfl ?_
  refine .nullary ?_; refine .binary ?_; refine .nullary ?_; refine .binary ?_; refine .binary ?_; refine .nullary ?_
  refine .binary ?_; refine .binary ?_; refine .nullary ?_; refine .binary ?_; refine .binary ?_; refine .nullary ?_
  refine .binary ?_; refine .binary ?_
  exact .stop _

/-- The last three operations: the constant zero, the multiplication by zero and the addition to the loss. -/
def final : Line (gathers (F := F) c).rest := by
  refine .nullary ?_; refine .binary ?_; refine .binary ?_
  exact .stop _

end Cert.Proof.Ref

end
-- ==== Proof.RefRun.lean ====
/- The reference program's run: two counted loops of 255 trips between stretches of host operations. Every execution terminates, the counters end at
   zero, and every buffer ends at the contents `endOf`. -/
module

public import proofs.«01_k».proof.Proof.RefLine
public import Idealize.ShloMosaic.Lib.Pipeline.Regions
public import Idealize.ShloMosaic.Lib.StableHlo.RunLoop
public import Idealize.ShloMosaic.Lib.StableHlo.RunRead
public import Idealize.ShloMosaic.PureOps.Ideal
public import Idealize.ShloMosaic.Lib.Scf.ExitTest
public import Idealize.ShloMosaic.Lib.Scf.Counter

@[expose] public section

set_option maxRecDepth 16384

noncomputable section

namespace Cert.Proof.Ref

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket ucRefs sub_ucRefs)

local notation "𝕄" => MT nD τ sig Unit (Elt Ideal) ℕ (Option PUnit) ℕ
/-- Contents of every buffer, for each device. -/
abbrev Vals := Dev nD → Valuation τ sig (Elt Ideal)
/-- A stretch of host operations. -/
abbrev Ops := List (HloOp τ sig (Elt Ideal))

/-! ## Lists of operations -/

/-- The operations of a line, as a list of stretches, are plain. -/
theorem plain_cons {p : Prog (TpuEff nD τ sig (Elt Ideal) (HostLoop.Sig (Pipeline.Sig Λ₀ (Fin 0) fun q => (pcfgs (F := Ideal) q).Adm) 2) .tc) PUnit}
    (h : Line p) {rest : List Ops} (hr : Plain rest) : Plain (h.ops :: rest) :=
  .cons (List.forall_iff_forall_mem.mpr h.sub) hr h.fresh

/-- The operations of the first loop's condition, -/
abbrev cond0 : Ops := [nullary main_while0c_c_27 (constantI S_ 32 255#32), binary main_v23_1 main_while0c_c_27 main_while0c_v59 (cmpi .slt)]
/-- and of the second's. -/
abbrev cond1 : Ops := [nullary main_while1c_c_27 (constantI S_ 32 255#32), binary main_v30_1 main_while1c_c_27 main_while1c_v59 (cmpi .slt)]

/-- The first loop's body, -/
abbrev body0 : List Ops := [(front0 (F := Ideal)).ops, (tail0 (F := Ideal)).ops]
/-- and the second's. -/
abbrev body1 : List Ops := [(front1 (F := Ideal)).ops, (tail1 (F := Ideal)).ops]

theorem plain_body0 : Plain body0 := plain_cons _ (plain_cons _ .nil)
theorem plain_body1 : Plain body1 := plain_cons _ (plain_cons _ .nil)

theorem body0_eq : main_while0_body (F := Ideal) = Pipeline.chain (body0.map fun ops => (seq ops : Prog _ PUnit)) :=
  (front0 (F := Ideal)).eq.trans (congrArg (seq (front0 (F := Ideal)).ops >>= ·) (funext fun _ => (tail0 (F := Ideal)).eq))
theorem body1_eq : main_while1_body (F := Ideal) = Pipeline.chain (body1.map fun ops => (seq ops : Prog _ PUnit)) :=
  (front1 (F := Ideal)).eq.trans (congrArg (seq (front1 (F := Ideal)).ops >>= ·) (funext fun _ => (tail1 (F := Ideal)).eq))

/-! ## The counters -/

/-- One trip of the first loop adds one to its counter, -/
theorem tail0_ctr (X : Valuation τ sig (Elt Ideal)) :
    after (tail0 (F := Ideal)).ops X (Proc.devRef .tc main_v23_1) = addi (X (Proc.devRef .tc main_v23_1)) (constantI S_ 32 1#32) := by
  show after (_ :: _ :: _ :: _ :: _ :: _ :: []) X _ = _
  after_results
  rfl
/-- and of the second to its own. -/
theorem tail1_ctr (X : Valuation τ sig (Elt Ideal)) :
    after (tail1 (F := Ideal)).ops X (Proc.devRef .tc main_v30_1) = addi (X (Proc.devRef .tc main_v30_1)) (constantI S_ 32 1#32) := by
  show after (_ :: _ :: _ :: _ :: _ :: _ :: []) X _ = _
  after_results
  rfl

/-- A condition writes the two buffers named in it only. -/
theorem cond0_keeps (V : Valuation τ sig (Elt Ideal)) {r : Ref sig .tc} (h : r ∉ [main_while0c_c_27, main_while0c_v59]) :
    after cond0 V (Proc.devRef .tc r) = V (Proc.devRef .tc r) :=
  after_of_writes_sub cond0 V (forall_writes_sub_of_map rfl) h
theorem cond1_keeps (V : Valuation τ sig (Elt Ideal)) {r : Ref sig .tc} (h : r ∉ [main_while1c_c_27, main_while1c_v59]) :
    after cond1 V (Proc.devRef .tc r) = V (Proc.devRef .tc r) :=
  after_of_writes_sub cond1 V (forall_writes_sub_of_map rfl) h

/-- From a counter at zero, the first loop's counter before its `k`-th condition is `k`, -/
theorem ctr0 (W : Vals) (c : Dev nD) (h : W c (Proc.devRef .tc main_v23_1) = fun _ => (0#32 : BitVec 32)) :
    ∀ k, atTrip cond0 body0 W k c (Proc.devRef .tc main_v23_1) = fun _ => Scf.iv 0#32 1#32 k
  | 0 => by rw [atTrip_zero, h, Scf.iv_zero]
  | k + 1 => by
    rw [atTrip_succ, afterL_cons, afterL_cons, afterL_nil, tail0_ctr, Line.keeps _ _ (by decide +kernel), cond0_keeps _ (by decide +kernel),
      ctr0 W c h k, Scf.iv_succ]
    rfl
/-- and so is the second's. -/
theorem ctr1 (W : Vals) (c : Dev nD) (h : W c (Proc.devRef .tc main_v30_1) = fun _ => (0#32 : BitVec 32)) :
    ∀ k, atTrip cond1 body1 W k c (Proc.devRef .tc main_v30_1) = fun _ => Scf.iv 0#32 1#32 k
  | 0 => by rw [atTrip_zero, h, Scf.iv_zero]
  | k + 1 => by
    rw [atTrip_succ, afterL_cons, afterL_cons, afterL_nil, tail1_ctr, Line.keeps _ _ (by decide +kernel), cond1_keeps _ (by decide +kernel),
      ctr1 W c h k, Scf.iv_succ]
    rfl

/-- What is carried beside the buffers: nothing is owed. -/
abbrev Rest (c : Dev nD) : sProp 𝕄 := iprop(∃ W, owes (c : Thread nD τ) (0 : CellTallies nD τ sig Unit) W)

set_option backward.isDefEq.respectTransparency.types false in
/-- The first loop's condition holds while fewer than 255 trips are done, -/
theorem spec0 (W : Vals) (h : ∀ c, W c (Proc.devRef .tc main_v23_1) = fun _ => (0#32 : BitVec 32)) :
    LoopCond (pcfgs (F := Ideal)) defs₀ Variants.none loops Rest (main_while0_cond (F := Ideal)) cond0 body0 W 255 := by
  intro k hk c bd
  have hctr := ctr0 W c (h c) k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb] <;> iassumption
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb] <;> iassumption
  iintro ⟨Hb, Hh⟩
  rw [HostLoop.elt_apply, wp_ret]; imodintro
  isplitr
  · ipureintro
    show Iff (IntOp.cmpi .slt (HloOp.result _ (atTrip cond0 body0 W k c) main_v23_1 HostLoop.idx0)
        (HloOp.result _ (atTrip cond0 body0 W k c) main_while0c_c_27 HostLoop.idx0) = 1#1) (k < 255)
    rw [nullary_result_ne _ _ _ _ (by decide), nullary_result, hctr]
    exact Scf.cmpi_slt_iv_ub_iff (lb := 0#32) (ub := 255#32) (st := 1#32) (by decide) (show k ≤ Scf.trips 0#32 255#32 1#32 from hk)
  isplitl [Hb]; · iexact Hb
  isplitl [Hh]
  · rw [after_cons, after_cons, after_nil]; iexact Hh
  iexact HR

set_option backward.isDefEq.respectTransparency.types false in
/-- and so does the second's. -/
theorem spec1 (W : Vals) (h : ∀ c, W c (Proc.devRef .tc main_v30_1) = fun _ => (0#32 : BitVec 32)) :
    LoopCond (pcfgs (F := Ideal)) defs₀ Variants.none loops Rest (main_while1_cond (F := Ideal)) cond1 body1 W 255 := by
  intro k hk c bd
  have hctr := ctr1 W c (h c) k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb] <;> iassumption
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb] <;> iassumption
  iintro ⟨Hb, Hh⟩
  rw [HostLoop.elt_apply, wp_ret]; imodintro
  isplitr
  · ipureintro
    show Iff (IntOp.cmpi .slt (HloOp.result _ (atTrip cond1 body1 W k c) main_v30_1 HostLoop.idx0)
        (HloOp.result _ (atTrip cond1 body1 W k c) main_while1c_c_27 HostLoop.idx0) = 1#1) (k < 255)
    rw [nullary_result_ne _ _ _ _ (by decide), nullary_result, hctr]
    exact Scf.cmpi_slt_iv_ub_iff (lb := 0#32) (ub := 255#32) (st := 1#32) (by decide) (show k ≤ Scf.trips 0#32 255#32 1#32 from hk)
  isplitl [Hb]; · iexact Hb
  isplitl [Hh]
  · rw [after_cons, after_cons, after_nil]; iexact Hh
  iexact HR

/-! ## The contents along @main -/

variable (m : (ℓ : Loc nD τ sig) → Buf (Elt Ideal) ℓ) (ρ : Dev nD → PrngReg)

/-- The stretches before the first loop, between the loops (`c` names the device, and nothing depends on it), -/
abbrev pre (c : Dev nD) : List Ops := [(loss (F := Ideal) c).ops, (enter0 (F := Ideal) c).ops]
abbrev mid (c : Dev nD) : List Ops := [(between (F := Ideal) c).ops]
/-- and after both. -/
abbrev post (c : Dev nD) : List Ops := [(after1 (F := Ideal) c).ops, (gathers (F := Ideal) c).ops, (final (F := Ideal) c).ops]

/-- The contents at the first loop's entry, -/
def at0 (c : Dev nD) : Valuation τ sig (Elt Ideal) := afterL (pre c) (launchContents m c)
/-- at its exit, -/
def out0 (c : Dev nD) : Valuation τ sig (Elt Ideal) := after cond0 (atTrip cond0 body0 (at0 m) 255 c)
/-- at the second loop's entry, -/
def at1 (c : Dev nD) : Valuation τ sig (Elt Ideal) := afterL (mid c) (out0 m c)
/-- at its exit, -/
def out1 (c : Dev nD) : Valuation τ sig (Elt Ideal) := after cond1 (atTrip cond1 body1 (at1 m) 255 c)
/-- and at the end. -/
def endOf (c : Dev nD) : Valuation τ sig (Elt Ideal) := afterL (post c) (out1 m c)

/-- The first counter starts at zero, -/
theorem at0_ctr (c : Dev nD) : at0 m c (Proc.devRef .tc main_v23_1) = fun _ => (0#32 : BitVec 32) := by
  rw [at0, afterL_cons, afterL_cons, afterL_nil]
  show after (_ :: _ :: _ :: _ :: _ :: _ :: _ :: _ :: _ :: _ :: _ :: _ :: []) _ _ = _
  after_results
  rfl

/-- and so does the second. -/
theorem at1_ctr (c : Dev nD) : at1 m c (Proc.devRef .tc main_v30_1) = fun _ => (0#32 : BitVec 32) := by
  rw [at1, afterL_cons, afterL_nil]
  show after (_ :: _ :: _ :: _ :: _ :: _ :: _ :: _ :: _ :: _ :: _ :: _ :: _ :: _ :: _ :: _ :: []) _ _ = _
  after_results
  rfl

/-- @main is its stretches and its two loops in order. -/
theorem main_eq (c : Dev nD) : main (F := Ideal) c = Pipeline.chain (((pre c).map fun ops => (seq ops : Prog _ PUnit))
    ++ HostLoop.enter 0 :: (((mid c).map fun ops => (seq ops : Prog _ PUnit)) ++ HostLoop.enter 1 :: ((post c).map fun ops => (seq ops : Prog _ PUnit)))) := by
  show (main_part0 c >>= fun _ => main_part1 c) = _
  rw [(loss (F := Ideal) c).eq, (enter0 (F := Ideal) c).eq, (loop0 (F := Ideal) c).eq, (between (F := Ideal) c).eq, (loop1 (F := Ideal) c).eq,
    (after1 (F := Ideal) c).eq, (gathers (F := Ideal) c).eq, (final (F := Ideal) c).eq]
  simp only [bind_assoc]
  rfl

/-! ## The run -/

/-- No pipeline takes part. -/
abbrev adm : (p : Fin 0) → (pcfgs (F := Ideal) p).Adm := fun p => p.elim0
/-- No ticket, -/
abbrev tickets : Fin 0 → Ticket (Ix := Unit) (Name := ℕ) (U := Option PUnit) (Lvl := ℕ) (nD := nD) (τ := τ) (pcfgs (F := Ideal)) adm := fun j => j.elim0
/-- no pending signal at any semaphore, -/
abbrev pending : GSem nD τ sig → Finset Unit := fun _ => ∅
/-- and one level. -/
abbrev level : GSem nD τ sig → Unit → ℕ := fun _ _ => 0

/-- The stretches do not depend on the device, of which there is one. -/
abbrev d₀ : Dev nD := 0

theorem plain_pre : Plain (pre d₀) := plain_cons _ (plain_cons _ .nil)
theorem plain_mid : Plain (mid d₀) := plain_cons _ .nil
theorem plain_post : Plain (post d₀) := plain_cons _ (plain_cons _ (plain_cons _ .nil))

/-- @main's segments: the stretches and the two loops in order. -/
def segs : List (CSeg (pcfgs (F := Ideal)) adm defs₀ Variants.none pending level loops tickets) :=
  segsOf _ _ _ _ _ _ _ _ Rest (pre d₀) plain_pre (launchContents m)
    ++ loopSeg _ _ _ _ _ _ _ _ 0 main_while0_cond main_while0_body rfl cond0 body0 plain_body0 body0_eq 255 (at0 m) Rest (spec0 _ (at0_ctr m))
      :: (segsOf _ _ _ _ _ _ _ _ Rest (mid d₀) plain_mid (out0 m)
        ++ loopSeg _ _ _ _ _ _ _ _ 1 main_while1_cond main_while1_body rfl cond1 body1 plain_body1 body1_eq 255 (at1 m) Rest (spec1 _ (at1_ctr m))
          :: segsOf _ _ _ _ _ _ _ _ Rest (post d₀) plain_post (out1 m))

theorem segs_prog : (segs m).map CSeg.prog = ((pre d₀).map fun ops => (seq ops : Prog _ PUnit))
    ++ HostLoop.enter 0 :: (((mid d₀).map fun ops => (seq ops : Prog _ PUnit)) ++ HostLoop.enter 1 :: ((post d₀).map fun ops => (seq ops : Prog _ PUnit))) := by
  unfold segs
  rw [List.map_append, List.map_cons, List.map_append, List.map_cons, segsOf_prog, segsOf_prog, segsOf_prog]
  rfl

/-- The segments chain from the launch contents to `endOf`. -/
theorem segs_chains : CSeg.Chains (fun c => iprop(held (c : Thread nD τ) (ucRefs τ sig) (launchContents m c) ∗ Rest c)) (segs m)
    (fun c => iprop(iprop(held (c : Thread nD τ) (ucRefs τ sig) (endOf m c)) ∗ ∃ W, owes (c : Thread nD τ) (0 : CellTallies nD τ sig Unit) W)) := by
  have hc : ∀ c : Dev nD, c = d₀ := fun c => Subsingleton.elim c d₀
  have e0 : at0 m = fun c => afterL (pre d₀) (launchContents m c) := funext fun c => by rw [at0, hc c]
  have e1 : at1 m = fun c => afterL (mid d₀) (out0 m c) := funext fun c => by rw [at1, hc c]
  have e2 : endOf m = fun c => afterL (post d₀) (out1 m c) := funext fun c => by rw [endOf, hc c]
  unfold segs
  refine CSeg.Chains.append (segsOf_chains _ _ _ _ _ _ _ _ Rest (pre d₀) plain_pre _) ⟨fun c => ?_, CSeg.Chains.append
    (segsOf_chains _ _ _ _ _ _ _ _ Rest (mid d₀) plain_mid _) ⟨fun c => ?_, ?_⟩⟩
  · show iprop(held (c : Thread nD τ) (ucRefs τ sig) (afterL (pre d₀) (launchContents m c)) ∗ Rest c)
      ⊢ iprop(held (c : Thread nD τ) (ucRefs τ sig) (at0 m c) ∗ Rest c)
    rw [e0]
  · show iprop(held (c : Thread nD τ) (ucRefs τ sig) (afterL (mid d₀) (out0 m c)) ∗ Rest c)
      ⊢ iprop(held (c : Thread nD τ) (ucRefs τ sig) (at1 m c) ∗ Rest c)
    rw [e1]
  · rw [e2]; exact segsOf_chains _ _ _ _ _ _ _ _ Rest (post d₀) plain_post _

/-- THE RUN: every execution terminates with every unscoped buffer at `endOf`. -/
theorem run : θ_run defs (onTc (τ := τ) (main (F := Ideal))) ⟨m, fun _ => 0, ρ⟩
    (fun r => ∀ (c : Dev nD) (b : Ref sig .tc), (Proc.devRef .tc b : DevRef τ sig).isScoped = false →
      r.2.mem ((c.tc : Thread nD τ).loc b) = endOf m c (Proc.devRef .tc b)) :=
  Pipeline.θ_run_regions_loop_kit (Ix := Unit) (Name := ℕ) (U := Option PUnit) (Lvl := ℕ) (J := Fin 0) (P := Fin 0) (Val := Elt Ideal)
    pcfgs adm (fun x => x.1.elim0) defs₀ Variants.none pending level loops tickets m ρ main (segs m)
    (fun c Q => by
      rw [main_eq c, show c = d₀ from Subsingleton.elim c d₀, ← segs_prog m]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rest c))
    (Tₙ := fun c => iprop(held (c : Thread nD τ) (ucRefs τ sig) (endOf m c)))
    (hch := segs_chains m)
    (hinit := by
      refine Pipeline.initEach pending level fun c => ?_
      rw [show unscopedBufs c (fun b => m ((c : Thread nD τ).loc b)) = held (c : Thread nD τ) (ucRefs τ sig) (launchContents m c) from
        Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = endOf m c b)
    (hfin := fun c s' => by
      unfold held
      iintro ⟨Hh, HS⟩
      ihave Hr := (pointsTo_read_all (ucRefs τ sig) (fun b => ((c : Dev nD), b)) (fun b => endOf m c b) s') $$ [Hh HS]
      · isplitl [Hh] <;> iassumption
      icases Hr with ⟨%h, HS⟩
      imodintro
      isplitr; · ipureintro; exact h
      iexact HS)
    (hQ := fun _ h c b hb => h c _ (devRef_mem_ucRefs b hb))

/-! ## What the run leaves in the buffers the claims read -/

/-- The trips of the first loop leave every buffer they do not write, -/
theorem trips0_keep (W : Vals) (c : Dev nD) {r : Ref sig .tc} (h : r ∉ [main_while0c_c_27, main_while0c_v59])
    (h₁ : r ∉ (front0 (F := Ideal)).W) (h₂ : r ∉ (tail0 (F := Ideal)).W) :
    ∀ k, atTrip cond0 body0 W k c (Proc.devRef .tc r) = W c (Proc.devRef .tc r)
  | 0 => rfl
  | k + 1 => by
    rw [atTrip_succ, afterL_cons, afterL_cons, afterL_nil, Line.keeps _ _ h₂, Line.keeps _ _ h₁, cond0_keeps _ h, trips0_keep W c h h₁ h₂ k]
/-- and so do the second's. -/
theorem trips1_keep (W : Vals) (c : Dev nD) {r : Ref sig .tc} (h : r ∉ [main_while1c_c_27, main_while1c_v59])
    (h₁ : r ∉ (front1 (F := Ideal)).W) (h₂ : r ∉ (tail1 (F := Ideal)).W) :
    ∀ k, atTrip cond1 body1 W k c (Proc.devRef .tc r) = W c (Proc.devRef .tc r)
  | 0 => rfl
  | k + 1 => by
    rw [atTrip_succ, afterL_cons, afterL_cons, afterL_nil, Line.keeps _ _ h₂, Line.keeps _ _ h₁, cond1_keeps _ h, trips1_keep W c h h₁ h₂ k]

/-- Every buffer written between the loss and the last stretch. -/
abbrev written : List (Ref sig .tc) :=
  (enter0 (F := Ideal) d₀).W ++ [main_while0c_c_27, main_while0c_v59] ++ (front0 (F := Ideal)).W ++ (tail0 (F := Ideal)).W ++ (between (F := Ideal) d₀).W
    ++ [main_while1c_c_27, main_while1c_v59] ++ (front1 (F := Ideal)).W ++ (tail1 (F := Ideal)).W ++ (after1 (F := Ideal) d₀).W ++ (gathers (F := Ideal) d₀).W

/-- A buffer outside `written` holds at the last stretch what the loss left there. -/
theorem kept {r : Ref sig .tc} (h : r ∉ written) :
    after (gathers (F := Ideal) d₀).ops (after (after1 (F := Ideal) d₀).ops (out1 m d₀)) (Proc.devRef .tc r)
      = after (loss (F := Ideal) d₀).ops (launchContents m d₀) (Proc.devRef .tc r) := by
  simp only [List.mem_append, not_or] at h
  obtain ⟨⟨⟨⟨⟨⟨⟨⟨⟨he, hc0⟩, hf0⟩, ht0⟩, hb⟩, hc1⟩, hf1⟩, ht1⟩, ha⟩, hg⟩ := h
  rw [Line.keeps _ _ hg, Line.keeps _ _ ha, out1, cond1_keeps _ hc1, trips1_keep _ _ hc1 hf1 ht1, at1, afterL_cons, afterL_nil, Line.keeps _ _ hb,
    out0, cond0_keeps _ hc0, trips0_keep _ _ hc0 hf0 ht0, at0, afterL_cons, afterL_cons, afterL_nil, Line.keeps _ _ he]

/-- An argument array ends at its launch contents. -/
theorem endOf_keeps {r : Ref sig .tc} (h : r ∉ written) (hl : r ∉ (loss (F := Ideal) d₀).W) (hf : r ∉ (final (F := Ideal) d₀).W) :
    endOf m d₀ (Proc.devRef .tc r) = m ((d₀.tc : Thread nD τ).loc r) := by
  rw [endOf, afterL_cons, afterL_cons, afterL_cons, afterL_nil, Line.keeps _ _ hf, kept m h, Line.keeps _ _ hl]

/-- The two inputs and the result, as arrays of extended reals. -/
abbrev Logits := (⟨S8x4096x128, .f32⟩ : BufTy).Contents (Elt Ideal)
abbrev Scalar := (⟨S_, .f32⟩ : BufTy).Contents (Elt Ideal)

/-- The sums over the last axis of a product of two inputs. -/
def dots (a b : Logits) : (⟨S8x4096, .f32⟩ : BufTy).Contents (Elt Ideal) :=
  Host.reduceAdd (mulf a b) (constant (F := Ideal) S_ .f32 0x00000000#32) reducesTo_S8x4096x128_S8x4096_d2 h_S_
/-- The norms of an input's rows, no smaller than the constant. -/
def norms (a : Logits) : (⟨S8x4096, .f32⟩ : BufTy).Contents (Elt Ideal) :=
  maximumf (Host.sqrt (dots a a)) (broadcastInDim S8x4096 ![] bcast_S_S8x4096 (constant (F := Ideal) S_ .f32 0x322BCC77#32))
/-- The loss: minus the mean over the batch of the mean of the rows' cosine similarities. -/
def lossOf (a b : Logits) : Scalar :=
  Host.negf (Host.divf
    (Host.reduceAdd (Host.divf (Host.reduceAdd (Host.divf (dots a b) (mulf (norms a) (norms b))) (constant (F := Ideal) S_ .f32 0x00000000#32)
        reducesTo_S8x4096_S8_d1 h_S_)
      (broadcastInDim S8 ![] bcast_S_S8 (constant (F := Ideal) S_ .f32 0x45800000#32))) (constant (F := Ideal) S_ .f32 0x00000000#32) reducesTo_S8_S_d0 h_S_)
    (constant (F := Ideal) S_ .f32 0x41000000#32))

/-- The first stretch leaves the loss in its last buffer. -/
theorem loss_value (V : Valuation τ sig (Elt Ideal)) :
    after (loss (F := Ideal) d₀).ops V (Proc.devRef .tc main_v19) = lossOf (V (Proc.devRef .tc main_arg0)) (V (Proc.devRef .tc main_arg1)) := by
  show after (_ :: _ :: _ :: _ :: _ :: _ :: _ :: _ :: _ :: _ :: _ :: _ :: _ :: _ :: _ :: _ :: _ :: _ :: _ :: _ :: _ :: _ :: _ :: _ :: _ :: _ :: _ :: _ :: _ :: []) V _ = _
  after_results
  rfl

/-- The last stretch adds zero times a number to the loss. -/
theorem final_value (V : Valuation τ sig (Elt Ideal)) :
    after (final (F := Ideal) d₀).ops V (Proc.devRef .tc main_v58)
      = addf (V (Proc.devRef .tc main_v19) : Scalar) (mulf (constant (F := Ideal) S_ .f32 0x00000000#32) (V (Proc.devRef .tc main_v56) : Scalar)) := by
  show after (_ :: _ :: _ :: []) V _ = _
  after_results

/-- The program's result is the loss, plus zero times a number. -/
theorem endOf_result : ∃ X : Scalar, endOf m d₀ (Proc.devRef .tc main_v58)
    = addf (lossOf (m ((d₀.tc : Thread nD τ).loc main_arg0)) (m ((d₀.tc : Thread nD τ).loc main_arg1)))
        (mulf (constant (F := Ideal) S_ .f32 0x00000000#32) X) :=
  ⟨_, by
    rw [endOf, afterL_cons, afterL_cons, afterL_cons, afterL_nil, final_value, kept m (by decide +kernel), loss_value]⟩

/-- Every execution terminates with the arguments unchanged, the counters at zero, and the result the loss plus zero times a number. -/
theorem run_result : θ_run defs (onTc (τ := τ) (main (F := Ideal))) ⟨m, fun _ => 0, ρ⟩ (fun r => ∀ c : Dev nD,
    (∃ X : Scalar, r.2.mem ((c.tc : Thread nD τ).loc main_v58)
      = addf (lossOf (m ((c.tc : Thread nD τ).loc main_arg0)) (m ((c.tc : Thread nD τ).loc main_arg1)))
          (mulf (constant (F := Ideal) S_ .f32 0x00000000#32) X))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun r h c => by
    rw [show c = d₀ from Subsingleton.elim c d₀]
    rw [h d₀ main_v58 rfl, h d₀ main_arg0 rfl, h d₀ main_arg1 rfl, h d₀ main_arg2 rfl, h d₀ main_arg3 rfl, h d₀ main_arg4 rfl]
    exact ⟨endOf_result m, endOf_keeps m (by decide +kernel) (by decide +kernel) (by decide +kernel),
      endOf_keeps m (by decide +kernel) (by decide +kernel) (by decide +kernel),
      endOf_keeps m (by decide +kernel) (by decide +kernel) (by decide +kernel),
      endOf_keeps m (by decide +kernel) (by decide +kernel) (by decide +kernel),
      endOf_keeps m (by decide +kernel) (by decide +kernel) (by decide +kernel)⟩) (run m ρ)

/-- The program has no semaphore, so its counters are zero. -/
theorem counters_zero (f : GSem nD τ sig → ℤ) : f = fun _ => 0 :=
  funext fun g => by
    obtain ⟨t, s | s⟩ := g
    · exact (show Fin 0 from s).elim0
    · exact (show Fin 0 from s).elim0

end Cert.Proof.Ref

end
-- ==== Proof.Math.lean ====
/- The mathematics: the loss as a sum of the rows' cosine similarities. The reference's nested means and the kernel's block sums, both over the extended
   reals, are minus one 32768th of the sum over all rows. -/
module

public import proofs.«01_k».proof.Proof.RefRun
public import proofs.«01_k».proof.Proof.Gen.KernelIdeal.Skeleton
public import Idealize.ShloMosaic.Lib.Pointwise

@[expose] public section

set_option maxRecDepth 16384

noncomputable section

namespace Cert.Proof

open Idealize.ShloMosaic

/-- The lower bound on a norm: the number the pattern of `1e-8` names. -/
def eps : EReal := Ideal.ofBits .f32 0x322BCC77#32

/-- The cosine similarity of two rows of 128 numbers, each norm at least `eps`. -/
def cosine (u v : Fin 128 → EReal) : EReal :=
  Ideal.div (∑ k, u k * v k) (max (Ideal.sqrt (∑ k, u k * u k)) eps * max (Ideal.sqrt (∑ k, v k * v k)) eps)

/-- The cosine similarity of the inputs' rows number `n`, the rows of the eight batch entries counted through. -/
def row (a b : Ref.Logits) (n : ℕ) : EReal :=
  cosine (fun k => a (ix3 (⟨n / 4096 % 8, Nat.mod_lt _ (by decide)⟩ : Fin 8) (⟨n % 4096, Nat.mod_lt _ (by decide)⟩ : Fin 4096) k))
    (fun k => b (ix3 (⟨n / 4096 % 8, Nat.mod_lt _ (by decide)⟩ : Fin 8) (⟨n % 4096, Nat.mod_lt _ (by decide)⟩ : Fin 4096) k))

/-- The sum of all rows' cosine similarities. -/
def total (a b : Ref.Logits) : EReal := ∑ n : Fin 32768, row a b n.val

/-! ## The constants -/

theorem ofBits_4096 : Ideal.ofBits .f32 0x45800000#32 = ((4096 : ℝ) : EReal) := by
  simp [Ideal.ofBits, Ideal.ieee, -EReal.coe_mul]; norm_num
theorem ofBits_8 : Ideal.ofBits .f32 0x41000000#32 = ((8 : ℝ) : EReal) := by
  simp [Ideal.ofBits, Ideal.ieee, -EReal.coe_mul]; norm_num
theorem ofBits_scale : Ideal.ofBits .f32 0xB8000000#32 = ((-(1 / 32768) : ℝ) : EReal) := by
  simp [Ideal.ofBits, Ideal.ieee, -EReal.coe_mul]; norm_num

/-! ## Sums scaled by a real number -/

/-- Multiplication by a real number that is not negative distributes over a sum of extended reals. -/
theorem sum_mul_real {n : ℕ} (s : Fin n → EReal) (r : ℝ) (hr : 0 ≤ r) : (∑ i, s i) * (r : EReal) = ∑ i, s i * (r : EReal) := by
  induction n with
  | zero => simp
  | succ n ih =>
    rw [Fin.sum_univ_succ, Fin.sum_univ_succ, ← ih,
      EReal.right_distrib_of_nonneg_of_ne_top (by exact_mod_cast hr) (EReal.coe_ne_top r)]

/-- Minus the mean of eight means over 4096 entries is the sum times minus one 32768th. -/
theorem mean_of_means (s : Fin 8 → EReal) :
    -Ideal.div (∑ i, Ideal.div (s i) (Ideal.ofBits .f32 0x45800000#32)) (Ideal.ofBits .f32 0x41000000#32)
      = (∑ i, s i) * Ideal.ofBits .f32 0xB8000000#32 := by
  rw [ofBits_4096, ofBits_8, ofBits_scale, Ideal.div_coe (by norm_num)]
  simp only [Ideal.div_coe (show (4096 : ℝ) ≠ 0 by norm_num)]
  rw [← sum_mul_real s (1 / 4096) (by norm_num), mul_assoc, ← EReal.coe_mul, ← mul_neg, ← EReal.coe_neg]
  congr 2
  norm_num

/-! ## The reference -/

/-- The reference's loss is the total times minus one 32768th. -/
theorem lossOf_eq (a b : Ref.Logits) (j : Cert.ReferenceIdeal.S_.Idx) :
    Ref.lossOf a b j = total a b * Ideal.ofBits .f32 0xB8000000#32 := by
  have h : Ref.lossOf a b j = -Ideal.div (∑ i : Fin 8, Ideal.div (∑ l : Fin 4096, cosine (fun k => a (ix3 i l k)) (fun k => b (ix3 i l k)))
      (Ideal.ofBits .f32 0x45800000#32)) (Ideal.ofBits .f32 0x41000000#32) := by
    pointwise [Ref.lossOf, Ref.norms, Ref.dots]
    rfl
  rw [h, mean_of_means, total, Fin.sum_univ_tiles 8 4096 rfl]
  congr 1
  refine Finset.sum_congr rfl fun i _ => Finset.sum_congr rfl fun l _ => ?_
  have hi := i.isLt
  have hl := l.isLt
  unfold row
  congr 1 <;> (funext k; congr 2 <;> (apply Fin.ext; simp; omega))

/-- Zero times any number added changes nothing. -/
theorem add_zero_mul (x y : Ref.Scalar) : addf x (mulf (constant (F := Ideal) Cert.ReferenceIdeal.S_ .f32 0x00000000#32) y) = x := by
  funext j
  pointwise
  simp

/-! ## The kernel's steps -/

/-- The first step's accumulator is zero. -/
theorem pay1_apply (j : Cert.KernelIdeal.S1x1.Idx) : Cert.KernelIdeal.Gen.k0_pay1 (F := Ideal) j = 0 := by
  pointwise [Cert.KernelIdeal.Gen.k0_pay1]

/-- A step adds its 2048 rows' cosine similarities. -/
theorem pay2_apply (x y : Vec Ideal Cert.KernelIdeal.S2048x128 .f32) (acc : Vec Ideal Cert.KernelIdeal.S1x1 .f32) (j : Cert.KernelIdeal.S1x1.Idx) :
    Cert.KernelIdeal.Gen.k0_pay2 x y acc j = acc j + ∑ r : Fin 2048, cosine (fun k => x (ix2 r k)) (fun k => y (ix2 r k)) := by
  pointwise [Cert.KernelIdeal.Gen.k0_pay2]
  rfl

/-- The last step scales. -/
theorem pay3_apply (acc : Vec Ideal Cert.KernelIdeal.S1x1 .f32) (j : Cert.KernelIdeal.S1x1.Idx) :
    Cert.KernelIdeal.Gen.k0_pay3 acc j = acc j * Ideal.ofBits .f32 0xB8000000#32 := by
  pointwise [Cert.KernelIdeal.Gen.k0_pay3]

/-- Sixteen blocks of 2048 rows are all the rows. -/
theorem total_eq (a b : Ref.Logits) : ∑ t ∈ Finset.range 16, ∑ r : Fin 2048, row a b (2048 * t + r.val) = total a b := by
  rw [total, Fin.sum_univ_tiles 16 2048 rfl, Finset.sum_range]
  refine Finset.sum_congr rfl fun t _ => Finset.sum_congr rfl fun r _ => ?_
  congr 1
  show 2048 * t.val + r.val = t.val * 2048 + r.val
  omega

end Cert.Proof

end
-- ==== Proof.KernelValue.lean ====
/- The kernel's value: after grid point `n` the accumulator holds the sum of the cosine similarities of the rows of blocks 0 … n, and the last point
   scales it. -/
module

public import proofs.«01_k».proof.Proof.Math
public import proofs.«01_k».proof.Proof.Gen.KernelIdeal.Frame
public import Idealize.ShloMosaic.Lib.Pipeline.Value
public import Idealize.ShloMosaic.Lib.StableHlo.RunRead
public import Idealize.ShloMosaic.Lib.Tactic

@[expose] public section

set_option maxRecDepth 16384

noncomputable section

namespace Cert.Proof.Kern

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

theorem offsets_zero : (![0, 0] : Fin 2 → Nat) = fun _ => 0 := by
  funext a
  match a with
  | 0 => rfl
  | 1 => rfl

/-- A middle point adds its block to the accumulator. -/
theorem out_mid (c : Dev nD) (i : grid0.Coords) (a1 : Memref sig .tc .vmem S2048x128 .f32) (h1 : a1.IsWhole)
    (a2 : Memref sig .tc .vmem S2048x128 .f32) (h2 : a2.IsWhole) (a3 : Memref sig .tc .vmem S1x1 .f32) (h3 : a3.IsWhole)
    (hc0 : ¬cond0_0 i) (hc1 : ¬cond0_1 i) (x y : Vec Ideal S2048x128 .f32) (acc : Vec Ideal S1x1 .f32) :
    out0_B_2 c i a1 h1 a2 h2 a3 h3 hc0 hc1 x y acc = k0_pay2 x y acc := by
  unfold out0_B_2
  rw [View.read_writes_eq_canon _ _ _ (cover0_B_2 c i a1 h1 a2 h2 a3 h3 hc0 hc1 x y acc)]
  unfold kernelRun0_B
  dsimp only
  sl_unfold_words
  rw [View.canon_unit_zero offsets_zero]
  simp only [View.readAt_eq_ld, h1.read_unread, h2.read_unread, h3.read_unread, View.ld_unit_zero (S := S2048x128) offsets_zero,
    View.ld_unit_zero (S := S1x1) offsets_zero]

/-- The first point adds its block to zero. -/
theorem out_first (c : Dev nD) (i : grid0.Coords) (a1 : Memref sig .tc .vmem S2048x128 .f32) (h1 : a1.IsWhole)
    (a2 : Memref sig .tc .vmem S2048x128 .f32) (h2 : a2.IsWhole) (a3 : Memref sig .tc .vmem S1x1 .f32) (h3 : a3.IsWhole)
    (hc0 : cond0_0 i) (hc1 : ¬cond0_1 i) (x y : Vec Ideal S2048x128 .f32) :
    out0_A_2 c i a1 h1 a2 h2 a3 h3 hc0 hc1 x y = k0_pay2 x y (k0_pay1 (F := Ideal)) := by
  unfold out0_A_2
  rw [View.read_writes_eq_canon _ _ _ (cover0_A_2 c i a1 h1 a2 h2 a3 h3 hc0 hc1 x y)]
  unfold kernelRun0_A
  dsimp only
  sl_unfold_words
  rw [View.canon_cons_unit_zero (S := S1x1) offsets_zero, View.readCov_unit_zero (S := S1x1) _ offsets_zero]
  simp only [View.readAt_eq_ld, h1.read_unread, h2.read_unread, View.ld_unit_zero (S := S2048x128) offsets_zero]

/-- The last point adds its block to the accumulator and scales. -/
theorem out_last (c : Dev nD) (i : grid0.Coords) (a1 : Memref sig .tc .vmem S2048x128 .f32) (h1 : a1.IsWhole)
    (a2 : Memref sig .tc .vmem S2048x128 .f32) (h2 : a2.IsWhole) (a3 : Memref sig .tc .vmem S1x1 .f32) (h3 : a3.IsWhole)
    (hc0 : ¬cond0_0 i) (hc1 : cond0_1 i) (x y : Vec Ideal S2048x128 .f32) (acc : Vec Ideal S1x1 .f32) :
    out0_C_2 c i a1 h1 a2 h2 a3 h3 hc0 hc1 x y acc = k0_pay3 (k0_pay2 x y acc) := by
  unfold out0_C_2
  rw [View.read_writes_eq_canon _ _ _ (cover0_C_2 c i a1 h1 a2 h2 a3 h3 hc0 hc1 x y acc)]
  unfold kernelRun0_C
  dsimp only
  sl_unfold_words
  rw [View.canon_cons_unit_zero (S := S1x1) offsets_zero, View.readCov_unit_zero (S := S1x1) _ offsets_zero]
  simp only [View.readAt_eq_ld, h1.read_unread, h2.read_unread, h3.read_unread, View.ld_unit_zero (S := S2048x128) offsets_zero,
    View.ld_unit_zero (S := S1x1) offsets_zero]

/-! ## The blocks -/

/-- The kernel's input arrays, on core `c`. -/
abbrev a₀ (c : Dev nD) : Ref.Logits := m ((c.tc : Thread nD τ).loc main_arg0)
abbrev a₁ (c : Dev nD) : Ref.Logits := m ((c.tc : Thread nD τ).loc main_arg1)

/-- Each window's block at point `t` is block `t` of its array. -/
theorem index0 (t : Fin cfg0.N) : win0_0.index t 0 = t.val ∧ win0_0.index t 1 = 0 := by
  revert t; decide +kernel
theorem index1 (t : Fin cfg0.N) : win0_1.index t 0 = t.val ∧ win0_1.index t 1 = 0 := by
  revert t; decide +kernel

/-- The two arrays the windows read are the inputs, their first two axes merged. -/
theorem array0 (c : Dev nD) : V m c main_v0 = shapeCast S32768x128 (a₀ m c) shapeCasts_S8x4096x128_S32768x128 := by
  show StableHlo.after hostOps0 _ _ = _
  after_results
  rfl
theorem array1 (c : Dev nD) : V m c main_v1 = shapeCast S32768x128 (a₁ m c) shapeCasts_S8x4096x128_S32768x128 := by
  show StableHlo.after hostOps0 _ _ = _
  after_results
  rfl

/-- Row `n` of an input whose first two axes are merged. -/
theorem merged_row (a : Ref.Logits) (n : ℕ) (hn : n < 32768) (k : Fin 128) :
    shapeCast S32768x128 a shapeCasts_S8x4096x128_S32768x128 (ix2 (⟨n, hn⟩ : Fin 32768) k)
      = a (ix3 (⟨n / 4096 % 8, Nat.mod_lt _ (by decide)⟩ : Fin 8) (⟨n % 4096, Nat.mod_lt _ (by decide)⟩ : Fin 4096) k) := by
  pointwise
  have h : n / 4096 % 8 = n / 4096 := Nat.mod_eq_of_lt (by omega)
  simp only [h]

/-- Row `r` of the block at point `t` is row `2048 t + r` of its array. -/
theorem block0 (c : Dev nD) (t : Fin cfg0.N) (r : Fin 2048) (k : Fin 128) (hn : 2048 * t.val + r.val < 32768) :
    (iblk m c 0 t : Vec Ideal S2048x128 .f32) (ix2 r k) = (V m c main_v0 : Vec Ideal S32768x128 .f32) (ix2 (⟨2048 * t.val + r.val, hn⟩ : Fin 32768) k) := by
  unfold iblk
  rw [View.read_apply]
  show V m c main_v0 _ = V m c main_v0 _
  congr 1
  funext a
  apply Fin.ext
  match a with
  | 0 => show win0_0.index t 0 * 2048 + 1 * r.val = 2048 * t.val + r.val; rw [(index0 t).1]; omega
  | 1 => show win0_0.index t 1 * 128 + 1 * k.val = k.val; rw [(index0 t).2]; omega
theorem block1 (c : Dev nD) (t : Fin cfg0.N) (r : Fin 2048) (k : Fin 128) (hn : 2048 * t.val + r.val < 32768) :
    (iblk m c 1 t : Vec Ideal S2048x128 .f32) (ix2 r k) = (V m c main_v1 : Vec Ideal S32768x128 .f32) (ix2 (⟨2048 * t.val + r.val, hn⟩ : Fin 32768) k) := by
  unfold iblk
  rw [View.read_apply]
  show V m c main_v1 _ = V m c main_v1 _
  congr 1
  funext a
  apply Fin.ext
  match a with
  | 0 => show win0_1.index t 0 * 2048 + 1 * r.val = 2048 * t.val + r.val; rw [(index1 t).1]; omega
  | 1 => show win0_1.index t 1 * 128 + 1 * k.val = k.val; rw [(index1 t).2]; omega

/-- A step at point `t` adds the cosine similarities of rows `2048 t` to `2048 t + 2047`. -/
theorem step (c : Dev nD) (t : Fin cfg0.N) (acc : Vec Ideal S1x1 .f32) (j : S1x1.Idx) :
    k0_pay2 (iblk m c 0 t) (iblk m c 1 t) acc j = acc j + ∑ r : Fin 2048, row (a₀ m c) (a₁ m c) (2048 * t.val + r.val) := by
  refine (pay2_apply _ _ acc j).trans (congrArg (acc j + ·) (Finset.sum_congr rfl fun r _ => ?_))
  have ht : t.val < 16 := Nat.lt_of_lt_of_eq t.isLt N_0
  have hn : 2048 * t.val + r.val < 32768 := by have := r.isLt; omega
  unfold row
  exact congrArg₂ cosine (funext fun k => by rw [block0 m c t r k hn, array0, merged_row]) (funext fun k => by rw [block1 m c t r k hn, array1, merged_row])

/-! ## The accumulator -/

/-- Before the last point the accumulator holds the blocks' sum so far, -/
theorem acc_eq (c : Dev nD) (j : S1x1.Idx) : ∀ (n : ℕ) (h : n < cfg0.N), n < 15 →
    outsAt0 m c n h j = ∑ t ∈ Finset.range (n + 1), ∑ r : Fin 2048, row (a₀ m c) (a₁ m c) (2048 * t + r.val)
  | 0, h, _ => by
    rw [show outsAt0 m c 0 h = _ from outsAt0_A m c ⟨0, h⟩ rfl (by show ¬ 0 % 16 = 15; decide), out_first, step, pay1_apply, zero_add, Finset.sum_range_one]
  | n + 1, h, hn => by
    have h0 : ¬ (⟨n + 1, h⟩ : Fin cfg0.N).val % 16 = 0 := by dsimp only; omega
    have h1 : ¬ (⟨n + 1, h⟩ : Fin cfg0.N).val % 16 = 15 := by dsimp only; omega
    rw [show outsAt0 m c (n + 1) h = _ from outsAt0_B m c ⟨n + 1, h⟩ h0 h1, out_mid, step, Finset.sum_range_succ]
    congr 1
    exact acc_eq c j n (Nat.lt_of_succ_lt h) (by omega)

/-- The last point. -/
abbrev last : Fin cfg0.N := ⟨15, Nat.lt_of_lt_of_eq (by decide) N_0.symm⟩

/-- and at the last point the scaled total. -/
theorem result_eq (c : Dev nD) (j : S1x1.Idx) :
    outsAt0 m c last.val last.isLt j = total (a₀ m c) (a₁ m c) * Ideal.ofBits .f32 0xB8000000#32 := by
  rw [outsAt0_C m c last (by decide) (by decide), out_last, pay3_apply, step, ← total_eq, Finset.sum_range_succ]
  congr 2
  exact acc_eq m c j 14 _ (by decide)

/-! ## The result array -/

/-- The kernel's result array: the accumulator after the last point. -/
abbrev result (c : Dev nD) : Buf (Elt Ideal) ((c.tc : Thread nD τ).loc main_v2) := outsAt0 m c last.val last.isLt

/-- The output's block is the whole array at every point. -/
theorem index2 (t : Fin cfg0.N) (a : Fin 2) : win0_2.index t a = 0 := by
  revert t a; decide +kernel

/-- The write-back, at the last point, writes it. -/
theorem flushed_eq (c : Dev nD) (t : Fin cfg0.N) (hf : (cfg0.win 2).flush t = true) :
    (dats m 0 c).flushed 2 t = ((cfg0.win 2).blk t).view.read (Elt Ideal) (result m c) := by
  have hl : t = last := Fin.ext (by
    have h₁ := (flush0_2 t).mp hf
    have h₂ : t.val < 16 := Nat.lt_of_lt_of_eq t.isLt N_0
    show t.val = 15
    omega)
  subst hl
  show (cfg0.win 2).cut (grid0.coords last) ((dats m 0 c).after 2 last) = _
  rw [after0_2]
  have hz : (fun a => win0_2.index last a * main_v2.ty.shape.size a) = fun _ => 0 := funext fun a => by rw [index2, Nat.zero_mul]
  exact (Memref.read_access_unit_zero (Elt Ideal) main_v2 hz (fun a => by rw [congrFun hz a]; simp) (result m c)).symm

/-- The result array ends at the accumulator after the last point. -/
theorem array2 (c : Dev nD) : (dats m 0 c).arrAt 2 cfg0.N = result m c :=
  (dats m 0 c).arrAt_eq_of_cover 2 (result m c) (flushed_eq m c) fun i =>
    ⟨last, (flush0_2 last).mpr rfl, by
      show i ∈ ((View.whole main_v2).slice (win0_2.rect last)).set
      rw [View.set_slice_whole, Rect.mem_set_unit]
      intro a
      have hx : ∀ b : Fin 2, win0_2.xsize (grid0.coords last) b = 1 := by decide +kernel
      have hi : (i a : Nat) < 1 := by
        match a with
        | 0 => exact (i 0).isLt
        | 1 => exact (i 1).isLt
      show win0_2.index last a * win0_2.size a ≤ (i a : Nat) ∧ (i a : Nat) < win0_2.index last a * win0_2.size a + win0_2.xsize (grid0.coords last) a
      rw [index2, hx a]
      omega⟩

/-- The three windows read three arrays. -/
theorem arrays_injective : Function.Injective (Pipeline.arrRef spec0) := by decide +kernel

/-- The program's result on core `c`, a scalar. -/
def value (c : Dev nD) : Buf (Elt Ideal) ((c.tc : Thread nD τ).loc main_v3) :=
  fun _ => total (a₀ m c) (a₁ m c) * Ideal.ofBits .f32 0xB8000000#32

/-- After the region the result array is read as a scalar. -/
theorem tail_eq (c : Dev nD) : Pipeline.afterTail₀ cfgs (dats m) 0 (V0 m) [hostOps1] c main_v3 = value m c := by
  unfold Pipeline.afterTail₀
  show StableHlo.after hostOps1 _ _ = _
  after_results
  funext j
  show shapeCast S_ (Pipeline.withArrays spec0 c (V0 m c) (fun w => (dats m 0 c).arrAt w cfg0.N) (Proc.devRef .tc (Pipeline.arrRef spec0 2)) : Vec Ideal S1x1 .f32)
    shapeCasts_S1x1_S_ j = _
  rw [Pipeline.withArrays_arr spec0 arrays_injective, array2]
  exact result_eq m c _

/-- The kernel's run: the result at the scaled total, the arguments unchanged. -/
theorem run_result : θ_run defs (onTc (τ := τ) (main (F := Ideal))) ⟨m, fun _ => 0, ρ⟩ (fun r => ∀ c : Dev nD,
    r.2.mem ((c.tc : Thread nD τ).loc main_v3) = value m c) :=
  (θ_run defs _ _).mono (fun _ h c => ((h c).2 main_v3 (Pipeline.mem_restRefs_of main_v3 (by decide) (by decide))).trans (tail_eq m c)) (run_main m ρ)

end Cert.Proof.Kern

end
-- ==== Proof.lean ====
/- The certificate's claim: the kernel and the reference each run to completion leaving their inputs unchanged, and over the extended reals both end with
   the same number. -/
module

public import proofs.«01_k».proof.Defs
public import proofs.«01_k».proof.Proof.KernelValue
public import proofs.«01_k».proof.Proof.Gen.Kernel.Frame
public import Idealize.ShloMosaic.Lib.Claim

@[expose] public section

noncomputable section

namespace Cert.Proof

open Idealize.ShloMosaic Idealize.SL.Sem

/-- The reference runs to completion, leaves its arguments unchanged and every counter at zero. -/
theorem reference_frame : quiescent_ReferenceIdeal (hReferenceIdeal := Cert.ReferenceIdeal.Gen.facts) := fun m g _ =>
  (θ_run _ _ _).mono (fun r h => ⟨fun c => (h c).2, Ref.counters_zero r.2.sem⟩) (Ref.run_result m g)

/-- The reference's result is the kernel's: zero times a number adds nothing, and the loss is the scaled total. -/
theorem reference_value (m : (ℓ : Loc Cert.KernelIdeal.nD Cert.KernelIdeal.τ Cert.KernelIdeal.sig) → Buf (Elt Ideal) ℓ) (c : Dev Cert.KernelIdeal.nD)
    (a' b' : Ref.Logits) (ha : a' = Kern.a₀ m c) (hb : b' = Kern.a₁ m c) (X' : Ref.Scalar) :
    addf (Ref.lossOf a' b') (mulf (constant (F := Ideal) Cert.ReferenceIdeal.S_ .f32 0x00000000#32) X') = Kern.value m c := by
  subst ha hb
  rw [add_zero_mul]
  exact funext fun j => lossOf_eq _ _ j

/-- The kernel and the reference end with the same number. -/
theorem same_value : algebraic_KernelIdeal_ReferenceIdeal (hKernelIdeal := Cert.KernelIdeal.Gen.facts) (hReferenceIdeal := Cert.ReferenceIdeal.Gen.facts) :=
  fun m g m' g' _ hm => ⟨Kern.value m,
    (θ_run _ _ _).mono (fun _ h c => ⟨h.1 c, h.2 c⟩) (θ_run_and (Kern.run_result m g) (Cert.KernelIdeal.Gen.unchanged m g)),
    (θ_run _ _ _).mono (fun _ h c => ⟨by
      obtain ⟨⟨X, hX⟩, -⟩ := h c
      exact hX.trans (reference_value m c _ _ (hm c).1 (hm c).2.1 X), (h c).2⟩) (Ref.run_result m' g')⟩

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, same_value⟩

end Cert.Proof

end
